-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v20)) (v3 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v20) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v13)) (v2 : (c : Dev Cert.Kernel3Ideal.nD) → Buf (Elt Ideal) ((c.tc : Thread Cert.Kernel3Ideal.nD Cert.Kernel3Ideal.τ).loc Cert.Kernel3Ideal.main_v15)) (v3 : (c : Dev Cert.Kernel3Ideal.nD) → Buf (Elt Ideal) ((c.tc : Thread Cert.Kernel3Ideal.nD Cert.Kernel3Ideal.τ).loc Cert.Kernel3Ideal.main_v17)) (v4 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v13) = v1 c
          ∧ r.2.mem ((c.tc : Thread Cert.Kernel3Ideal.nD Cert.Kernel3Ideal.τ).loc Cert.Kernel3Ideal.main_v15) = v2 c
          ∧ r.2.mem ((c.tc : Thread Cert.Kernel3Ideal.nD Cert.Kernel3Ideal.τ).loc Cert.Kernel3Ideal.main_v17) = v3 c
          ∧ r.2.mem ((c.tc : Thread Cert.Kernel3Ideal.nD Cert.Kernel3Ideal.τ).loc Cert.Kernel3Ideal.main_v19) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_v14) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v142_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v142_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
-- ==== Pre_finite_scores.lean ====
abbrev S16384x8448 : Shape := ⟨2, ![16384, 8448]⟩
abbrev S16x257 : Shape := ⟨2, ![16, 257]⟩
abbrev S16 : Shape := ⟨1, ![16]⟩
abbrev S16384x1024 : Shape := ⟨2, ![16384, 1024]⟩
abbrev S_ : Shape := ⟨0, ![]⟩

class Facts : Prop where
  slices_S16384x8448_S16384x1024_0_4096 : S16384x8448.Slices ![0, 4096] S16384x1024
  slices_S16384x8448_S16384x1024_0_6144 : S16384x8448.Slices ![0, 6144] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S16384x8448 .bf16) (main_arg1 : FVec F S16x257 .f32) (main_arg2 : FVec F S16 .f32) : IVec S_ 1 :=
  let main_v0 : FVec F S16384x1024 .bf16 := (extractStridedSlice S16384x1024 ![0, 4096] · slices_S16384x8448_S16384x1024_0_4096) main_arg0
  let main_v1 : FVec F S16384x1024 .bf16 := (extractStridedSlice S16384x1024 ![0, 6144] · slices_S16384x8448_S16384x1024_0_6144) main_arg0
  let main_v2 : FVec F S16384x1024 .bf16 := Host.absf main_v0
  let main_cst : FVec F S_ .bf16 := constant S_ .bf16 0x7F80#16
  let main_v3 : FVec F S16384x1024 .bf16 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S16384x1024 .bf16 := Host.absf main_v1
  let main_cst_0 : FVec F S_ .bf16 := constant S_ .bf16 0x7F80#16
  let main_v7 : FVec F S16384x1024 .bf16 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v5 main_v9
  let main_v11 : FVec F S16x257 .f32 := Host.absf main_arg1
  let main_cst_2 : FVec F S_ .f32 := constant S_ .f32 0x7F800000#32
  let main_v12 : FVec F S16x257 .f32 := broadcastInDim S16x257 ![] bcast_S_S16x257 main_cst_2
  let main_v13 : IVec S16x257 1 := cmpf .olt main_v11 main_v12
  let main_c_3 : IVec S_ 1 := constantI S_ 1 1#1
  let main_v14 : IVec S_ 1 := (fun x v => Host.reduce IntOp.andi x v reducesTo_S16x257_S_d0_1 h_S_) main_v13 main_c_3
  let main_v15 : IVec S_ 1 := andi main_v10 main_v14
  main_v15
-- ==== Kernel2.lean ====
abbrev S4x4096x2048 : Shape := ⟨3, ![4, 4096, 2048]⟩
abbrev S2048x8448 : Shape := ⟨2, ![2048, 8448]⟩
abbrev S16384x2048 : Shape := ⟨2, ![16384, 2048]⟩
abbrev S2048x1024 : Shape := ⟨2, ![2048, 1024]⟩
abbrev S2048x128 : Shape := ⟨2, ![2048, 128]⟩
abbrev S2048x2048 : Shape := ⟨2, ![2048, 2048]⟩
abbrev S16384x8448 : Shape := ⟨2, ![16384, 8448]⟩
abbrev S16384x2304 : Shape := ⟨2, ![16384, 2304]⟩
abbrev S1024x2048 : Shape := ⟨2, ![1024, 2048]⟩
abbrev S2048x768 : Shape := ⟨2, ![2048, 768]⟩
abbrev S1024x768 : Shape := ⟨2, ![1024, 768]⟩
abbrev S16384x1024 : Shape := ⟨2, ![16384, 1024]⟩
abbrev S4x4096x16x64 : Shape := ⟨4, ![4, 4096, 16, 64]⟩
abbrev S16384x128 : Shape := ⟨2, ![16384, 128]⟩
abbrev S4x4096x2x64 : Shape := ⟨4, ![4, 4096, 2, 64]⟩
abbrev S4x128x2x64 : Shape := ⟨4, ![4, 128, 2, 64]⟩

abbrev nBuf : Space → Nat
  | .hbm => 25
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x8448, .f32⟩
  | .hbm, ⟨2, _⟩ => ⟨S16384x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x128, .f32⟩
  | .hbm, ⟨8, _⟩ => ⟨S2048x128, .f32⟩
  | .hbm, ⟨9, _⟩ => ⟨S2048x2048, .f32⟩
  | .hbm, ⟨10, _⟩ => ⟨S2048x2048, .f32⟩
  | .hbm, ⟨11, _⟩ => ⟨S2048x8448, .f32⟩
  | .hbm, ⟨12, _⟩ => ⟨S2048x8448, .bf16⟩
  | .hbm, ⟨13, _⟩ => ⟨S16384x8448, .bf16⟩
  | .hbm, ⟨14, _⟩ => ⟨S16384x2304, .f32⟩
  | .hbm, ⟨15, _⟩ => ⟨S16384x1024, .f32⟩
  | .hbm, ⟨16, _⟩ => ⟨S4x4096x16x64, .f32⟩
  | .hbm, ⟨17, _⟩ => ⟨S16384x1024, .f32⟩
  | .hbm, ⟨18, _⟩ => ⟨S4x4096x16x64, .f32⟩
  | .hbm, ⟨19, _⟩ => ⟨S16384x128, .f32⟩
  | .hbm, ⟨20, _⟩ => ⟨S4x4096x2x64, .f32⟩
  | .hbm, ⟨21, _⟩ => ⟨S16384x128, .f32⟩
  | .hbm, ⟨22, _⟩ => ⟨S4x4096x2x64, .f32⟩
  | .hbm, ⟨23, _⟩ => ⟨S4x128x2x64, .f32⟩
  | .hbm, ⟨24, _⟩ => ⟨S4x128x2x64, .f32⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | .local _ .vmem, ⟨7, _⟩ => ⟨S1024x768, .f32⟩
  | .local _ .vmem, ⟨8, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c8_i32 : BitVec 32 := 8#32
  let v9 : BitVec 1 := Scalar.cmpi .sge arg1 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2048x8448 : Shape := ⟨2, ![2048, 8448]⟩
abbrev S4x4096x8448 : Shape := ⟨3, ![4, 4096, 8448]⟩
abbrev S4x4096x1024 : Shape := ⟨3, ![4, 4096, 1024]⟩
abbrev S4x4096x128 : Shape := ⟨3, ![4, 4096, 128]⟩
abbrev S4x4096x16x64 : Shape := ⟨4, ![4, 4096, 16, 64]⟩
abbrev S4x4096x2x64 : Shape := ⟨4, ![4, 4096, 2, 64]⟩
abbrev S16384x2048 : Shape := ⟨2, ![16384, 2048]⟩
abbrev S16384x1024 : Shape := ⟨2, ![16384, 1024]⟩
abbrev S16384x128 : Shape := ⟨2, ![16384, 128]⟩
abbrev S16384x8448 : Shape := ⟨2, ![16384, 8448]⟩
abbrev S16384x2304 : Shape := ⟨2, ![16384, 2304]⟩
abbrev S4x128x2x64 : Shape := ⟨4, ![4, 128, 2, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8448, .f32⟩
  | .hbm, ⟨2, _⟩ => ⟨S4x4096x8448, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x128, .f32⟩
  | .hbm, ⟨8, _⟩ => ⟨S4x4096x128, .f32⟩
  | .hbm, ⟨9, _⟩ => ⟨S4x4096x2048, .f32⟩
  | .hbm, ⟨10, _⟩ => ⟨S4x4096x2048, .f32⟩
  | .hbm, ⟨11, _⟩ => ⟨S4x4096x16x64, .f32⟩
  | .hbm, ⟨12, _⟩ => ⟨S4x4096x16x64, .f32⟩
  | .hbm, ⟨13, _⟩ => ⟨S4x4096x16x64, .f32⟩
  | .hbm, ⟨14, _⟩ => ⟨S4x4096x16x64, .f32⟩
  | .hbm, ⟨15, _⟩ => ⟨S4x4096x2x64, .f32⟩
  | .hbm, ⟨16, _⟩ => ⟨S4x4096x2x64, .f32⟩
  | .hbm, ⟨17, _⟩ => ⟨S16384x2048, .f32⟩
  | .hbm, ⟨18, _⟩ => ⟨S16384x2048, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x128, .f32⟩
  | .hbm, ⟨24, _⟩ => ⟨S16384x128, .f32⟩
  | .hbm, ⟨25, _⟩ => ⟨S16384x8448, .f32⟩
  | .hbm, ⟨26, _⟩ => ⟨S16384x8448, .bf16⟩
  | .hbm, ⟨27, _⟩ => ⟨S16384x1024, .f32⟩
  | .hbm, ⟨28, _⟩ => ⟨S16384x1024, .f32⟩
  | .hbm, ⟨29, _⟩ => ⟨S16384x128, .f32⟩
  | .hbm, ⟨30, _⟩ => ⟨S16384x128, .f32⟩
  | .hbm, ⟨31, _⟩ => ⟨S16384x2304, .f32⟩
  | .hbm, ⟨32, _⟩ => ⟨S4x128x2x64, .f32⟩
  | .hbm, ⟨33, _⟩ => ⟨S4x128x2x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩

abbrev nD : Nat := 1
abbrev τ : Topo := Topo.v7x

variable {F : FTy → Type} [FloatOps F]
-- ==== Kernel3.lean ====
abbrev S8x16x2048 : Shape := ⟨3, ![8, 16, 2048]⟩
abbrev S2048x8448 : Shape := ⟨2, ![2048, 8448]⟩
abbrev S128x2048 : Shape := ⟨2, ![128, 2048]⟩
abbrev S2048x1024 : Shape := ⟨2, ![2048, 1024]⟩
abbrev S2048x128 : Shape := ⟨2, ![2048, 128]⟩
abbrev S2048x2048 : Shape := ⟨2, ![2048, 2048]⟩
abbrev S128x8448 : Shape := ⟨2, ![128, 8448]⟩
abbrev S128x2304 : Shape := ⟨2, ![128, 2304]⟩
abbrev S2048x768 : Shape := ⟨2, ![2048, 768]⟩
abbrev S128x768 : Shape := ⟨2, ![128, 768]⟩
abbrev S128x1024 : Shape := ⟨2, ![128, 1024]⟩
abbrev S8x16x16x64 : Shape := ⟨4, ![8, 16, 16, 64]⟩
abbrev S128x128 : Shape := ⟨2, ![128, 128]⟩
abbrev S8x16x2x64 : Shape := ⟨4, ![8, 16, 2, 64]⟩

abbrev nBuf : Space → Nat
  | .hbm => 23
  | .vmem => 8
  | .smem => 0
  | _ => 0

abbrev bufTy : (tb : Table) → Fin (tcTables nBuf tb) → BufTy
  | .hbm, ⟨0, _⟩ => ⟨S8x16x2048, .f32⟩
  | .hbm, ⟨1, _⟩ => ⟨S2048x8448, .f32⟩
  | .hbm, ⟨2, _⟩ => ⟨S128x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x128, .f32⟩
  | .hbm, ⟨8, _⟩ => ⟨S2048x128, .f32⟩
  | .hbm, ⟨9, _⟩ => ⟨S2048x2048, .f32⟩
  | .hbm, ⟨10, _⟩ => ⟨S2048x2048, .f32⟩
  | .hbm, ⟨11, _⟩ => ⟨S2048x8448, .f32⟩
  | .hbm, ⟨12, _⟩ => ⟨S2048x8448, .bf16⟩
  | .hbm, ⟨13, _⟩ => ⟨S128x8448, .bf16⟩
  | .hbm, ⟨14, _⟩ => ⟨S128x2304, .f32⟩
  | .hbm, ⟨15, _⟩ => ⟨S128x1024, .f32⟩
  | .hbm, ⟨16, _⟩ => ⟨S8x16x16x64, .f32⟩
  | .hbm, ⟨17, _⟩ => ⟨S128x1024, .f32⟩
  | .hbm, ⟨18, _⟩ => ⟨S8x16x16x64, .f32⟩
  | .hbm, ⟨19, _⟩ => ⟨S128x128, .f32⟩
  | .hbm, ⟨20, _⟩ => ⟨S8x16x2x64, .f32⟩
  | .hbm, ⟨21, _⟩ => ⟨S128x128, .f32⟩
  | .hbm, ⟨22, _⟩ => ⟨S8x16x2x64, .f32⟩
  | .local _ .vmem, ⟨0, _⟩ => ⟨S128x2048, .f32⟩
  | .local _ .vmem, ⟨1, _⟩ => ⟨S2048x768, .bf16⟩
  | .local _ .vmem, ⟨2, _⟩ => ⟨S2048x768, .bf16⟩
  | .local _ .vmem, ⟨3, _⟩ => ⟨S128x768, .bf16⟩
  | .local _ .vmem, ⟨4, _⟩ => ⟨S128x768, .bf16⟩
  | .local _ .vmem, ⟨5, _⟩ => ⟨S128x768, .f32⟩
  | .local _ .vmem, ⟨6, _⟩ => ⟨S128x768, .f32⟩
  | .local _ .vmem, ⟨7, _⟩ => ⟨S128x2048, .bf16⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c8_i32 : BitVec 32 := 8#32
  let v9 : BitVec 1 := Scalar.cmpi .sge arg1 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x16x2048 : Shape := ⟨3, ![8, 16, 2048]⟩
abbrev S2048x8448 : Shape := ⟨2, ![2048, 8448]⟩
abbrev S8x16x8448 : Shape := ⟨3, ![8, 16, 8448]⟩
abbrev S8x16x1024 : Shape := ⟨3, ![8, 16, 1024]⟩
abbrev S8x16x128 : Shape := ⟨3, ![8, 16, 128]⟩
abbrev S8x16x16x64 : Shape := ⟨4, ![8, 16, 16, 64]⟩
abbrev S8x16x2x64 : Shape := ⟨4, ![8, 16, 2, 64]⟩
abbrev S128x2048 : Shape := ⟨2, ![128, 2048]⟩
abbrev S128x1024 : Shape := ⟨2, ![128, 1024]⟩
abbrev S128x128 : Shape := ⟨2, ![128, 128]⟩
abbrev S128x8448 : Shape := ⟨2, ![128, 8448]⟩

abbrev nBuf : Space → Nat
  | .hbm => 27
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S2048x8448, .f32⟩
  | .hbm, ⟨2, _⟩ => ⟨S8x16x8448, .f32⟩
  | .hbm, ⟨3, _⟩ => ⟨S8x16x1024, .f32⟩
  | .hbm, ⟨4, _⟩ => ⟨S8x16x1024, .f32⟩
  | .hbm, ⟨5, _⟩ => ⟨S8x16x1024, .f32⟩
  | .hbm, ⟨6, _⟩ => ⟨S8x16x1024, .f32⟩
  | .hbm, ⟨7, _⟩ => ⟨S8x16x128, .f32⟩
  | .hbm, ⟨8, _⟩ => ⟨S8x16x128, .f32⟩
  | .hbm, ⟨9, _⟩ => ⟨S8x16x2048, .f32⟩
  | .hbm, ⟨10, _⟩ => ⟨S8x16x2048, .f32⟩
  | .hbm, ⟨11, _⟩ => ⟨S8x16x16x64, .f32⟩
  | .hbm, ⟨12, _⟩ => ⟨S8x16x16x64, .f32⟩
  | .hbm, ⟨13, _⟩ => ⟨S8x16x16x64, .f32⟩
  | .hbm, ⟨14, _⟩ => ⟨S8x16x16x64, .f32⟩
  | .hbm, ⟨15, _⟩ => ⟨S8x16x2x64, .f32⟩
  | .hbm, ⟨16, _⟩ => ⟨S8x16x2x64, .f32⟩
  | .hbm, ⟨17, _⟩ => ⟨S128x2048, .f32⟩
  | .hbm, ⟨18, _⟩ => ⟨S128x2048, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x128, .f32⟩
  | .hbm, ⟨24, _⟩ => ⟨S128x128, .f32⟩
  | .hbm, ⟨25, _⟩ => ⟨S128x8448, .f32⟩
  | .hbm, ⟨26, _⟩ => ⟨S128x8448, .bf16⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩

abbrev nD : Nat := 1
abbrev τ : Topo := Topo.v7x

variable {F : FTy → Type} [FloatOps F]
-- ==== Kernel4.lean ====
abbrev S16384x2304 : Shape := ⟨2, ![16384, 2304]⟩
abbrev S4x512x16x64 : Shape := ⟨4, ![4, 512, 16, 64]⟩
abbrev S512x1024 : Shape := ⟨2, ![512, 1024]⟩
abbrev S1x512x16x64 : Shape := ⟨4, ![1, 512, 16, 64]⟩
abbrev S512x64 : Shape := ⟨2, ![512, 64]⟩
abbrev S1x512x1x64 : Shape := ⟨4, ![1, 512, 1, 64]⟩

abbrev nBuf : Space → Nat
  | .hbm => 3
  | .vmem => 8
  | .smem => 0
  | _ => 0

abbrev bufTy : (tb : Table) → Fin (tcTables nBuf tb) → BufTy
  | .hbm, ⟨0, _⟩ => ⟨S16384x2304, .f32⟩
  | .hbm, ⟨1, _⟩ => ⟨S4x512x16x64, .f32⟩
  | .hbm, ⟨2, _⟩ => ⟨S4x512x16x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x16x64, .f32⟩
  | .local _ .vmem, ⟨5, _⟩ => ⟨S1x512x16x64, .f32⟩
  | .local _ .vmem, ⟨6, _⟩ => ⟨S1x512x16x64, .f32⟩
  | .local _ .vmem, ⟨7, _⟩ => ⟨S1x512x16x64, .f32⟩
  | _, _ => ⟨S16384x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let c1_i32_1 : BitVec 32 := 1#32
  let c0_i32 : BitVec 32 := 0#32
  ![v2.toNat, c1_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x2304 : Shape := ⟨2, ![16384, 2304]⟩
abbrev S4x4096x2304 : Shape := ⟨3, ![4, 4096, 2304]⟩
abbrev S4x4096x1024 : Shape := ⟨3, ![4, 4096, 1024]⟩
abbrev S4x4096x128 : Shape := ⟨3, ![4, 4096, 128]⟩
abbrev S4x4096x16x64 : Shape := ⟨4, ![4, 4096, 16, 64]⟩
abbrev S4x512x16x64 : Shape := ⟨4, ![4, 512, 16, 64]⟩

abbrev nBuf : Space → Nat
  | .hbm => 10
  | .vmem => 0
  | .smem => 0
  | _ => 0

abbrev bufTy : (tb : Table) → Fin (tcTables nBuf tb) → BufTy
  | .hbm, ⟨0, _⟩ => ⟨S16384x2304, .f32⟩
  | .hbm, ⟨1, _⟩ => ⟨S4x4096x2304, .f32⟩
  | .hbm, ⟨2, _⟩ => ⟨S4x4096x1024, .f32⟩
  | .hbm, ⟨3, _⟩ => ⟨S4x4096x1024, .f32⟩
  | .hbm, ⟨4, _⟩ => ⟨S4x4096x128, .f32⟩
  | .hbm, ⟨5, _⟩ => ⟨S4x4096x128, .f32⟩
  | .hbm, ⟨6, _⟩ => ⟨S4x4096x16x64, .f32⟩
  | .hbm, ⟨7, _⟩ => ⟨S4x512x16x64, .f32⟩
  | .hbm, ⟨8, _⟩ => ⟨S4x4096x16x64, .f32⟩
  | .hbm, ⟨9, _⟩ => ⟨S4x512x16x64, .f32⟩
  | _, _ => ⟨S16384x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Kernel5.lean ====
abbrev S16384x8448 : Shape := ⟨2, ![16384, 8448]⟩
abbrev S16x257 : Shape := ⟨2, ![16, 257]⟩
abbrev S16 : Shape := ⟨1, ![16]⟩
abbrev S639 : Shape := ⟨1, ![639]⟩
abbrev S_ : Shape := ⟨0, ![]⟩
abbrev S639x1 : Shape := ⟨2, ![639, 1]⟩
abbrev S1 : Shape := ⟨1, ![1]⟩
abbrev S1x1 : Shape := ⟨2, ![1, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S8x128x576 : Shape := ⟨3, ![8, 128, 576]⟩
abbrev S8x576x128 : Shape := ⟨3, ![8, 576, 128]⟩
abbrev S16384x1024 : Shape := ⟨2, ![16384, 1024]⟩
abbrev S512x1024 : Shape := ⟨2, ![512, 1024]⟩
abbrev S512x128 : Shape := ⟨2, ![512, 128]⟩
abbrev S1024x1024 : Shape := ⟨2, ![1024, 1024]⟩
abbrev S1024x128 : Shape := ⟨2, ![1024, 128]⟩
abbrev S192x1024 : Shape := ⟨2, ![192, 1024]⟩
abbrev S1x1024 : Shape := ⟨2, ![1, 1024]⟩
abbrev S64x128 : Shape := ⟨2, ![64, 128]⟩
abbrev S128x128 : Shape := ⟨2, ![128, 128]⟩
abbrev S576x128 : Shape := ⟨2, ![576, 128]⟩
abbrev S1x576x128 : Shape := ⟨3, ![1, 576, 128]⟩
abbrev S128 : Shape := ⟨1, ![128]⟩
abbrev S1x128 : Shape := ⟨2, ![1, 128]⟩
abbrev S192x128 : Shape := ⟨2, ![192, 128]⟩
abbrev S1024 : Shape := ⟨1, ![1024]⟩

abbrev nBuf : Space → Nat
  | .hbm => 178
  | .vmem => 31
  | .smem => 1
  | _ => 0

abbrev hbmTy0_0 (i : Nat) : BufTy := match i % 128 with
  | 0 => ⟨S16384x8448, .bf16⟩
  | 1 => ⟨S16x257, .f32⟩
  | 2 => ⟨S16, .f32⟩
  | 3 => ⟨S639, .i32⟩
  | 4 => ⟨S_, .i32⟩
  | 5 => ⟨S639, .i32⟩
  | 6 => ⟨S639, .i32⟩
  | 7 => ⟨S_, .i32⟩
  | 8 => ⟨S_, .i32⟩
  | 9 => ⟨S_, .i32⟩
  | 10 => ⟨S639, .i32⟩
  | 11 => ⟨S639, .i32⟩
  | 12 => ⟨S_, .i32⟩
  | 13 => ⟨S639, .i32⟩
  | 14 => ⟨S639, .i32⟩
  | 15 => ⟨S_, .i32⟩
  | 16 => ⟨S639, .i32⟩
  | 17 => ⟨S639, .i32⟩
  | 18 => ⟨S_, .i32⟩
  | 19 => ⟨S639, .i32⟩
  | 20 => ⟨S639, .i1⟩
  | 21 => ⟨S_, .i32⟩
  | 22 => ⟨S639, .i32⟩
  | 23 => ⟨S639, .i32⟩
  | 24 => ⟨S639, .i32⟩
  | 25 => ⟨S639x1, .i32⟩
  | 26 => ⟨S1, .i32⟩
  | 27 => ⟨S_, .i32⟩
  | 28 => ⟨S639x1, .i32⟩
  | 29 => ⟨S639x1, .i1⟩
  | 30 => ⟨S1x1, .i32⟩
  | 31 => ⟨S639x1, .i32⟩
  | 32 => ⟨S639x1, .i1⟩
  | 33 => ⟨S639x1, .i1⟩
  | 34 => ⟨S_, .i1⟩
  | 35 => ⟨S639, .i1⟩
  | 36 => ⟨S16x639, .f32⟩
  | 37 => ⟨S16x639, .i1⟩
  | 38 => ⟨S_, .f32⟩
  | 39 => ⟨S16x639, .f32⟩
  | 40 => ⟨S16x639, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x576, .f32⟩
  | 92 => ⟨S16x576, .f32⟩
  | 93 => ⟨S16x576, .f32⟩
  | 94 => ⟨S16x576, .f32⟩
  | 95 => ⟨S16x576, .f32⟩
  | 96 => ⟨S16x576, .f32⟩
  | 97 => ⟨S16x576, .f32⟩
  | 98 => ⟨S16x576, .f32⟩
  | 99 => ⟨S16x576, .f32⟩
  | 100 => ⟨S16x576, .f32⟩
  | 101 => ⟨S16x576, .f32⟩
  | 102 => ⟨S16x576, .f32⟩
  | 103 => ⟨S16x576, .f32⟩
  | 104 => ⟨S16x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S16384x8448, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x1x576, .f32⟩
  | 28 => ⟨S16x1x576, .f32⟩
  | 29 => ⟨S16x1x576, .f32⟩
  | 30 => ⟨S16x1x576, .f32⟩
  | 31 => ⟨S16x1x576, .f32⟩
  | 32 => ⟨S16x1x576, .f32⟩
  | 33 => ⟨S16x1x576, .f32⟩
  | 34 => ⟨S16x1x576, .f32⟩
  | 35 => ⟨S16x1x576, .f32⟩
  | 36 => ⟨S16x1x576, .f32⟩
  | 37 => ⟨S16x1x576, .f32⟩
  | 38 => ⟨S16x1x576, .f32⟩
  | 39 => ⟨S16x1x576, .f32⟩
  | 40 => ⟨S16x1x576, .f32⟩
  | 41 => ⟨S16x16x576, .f32⟩
  | 42 => ⟨S16x16x576, .f32⟩
  | 43 => ⟨S16x16x576, .f32⟩
  | 44 => ⟨S16x16x576, .f32⟩
  | 45 => ⟨S16x64x576, .f32⟩
  | 46 => ⟨S8x128x576, .f32⟩
  | 47 => ⟨S8x576x128, .f32⟩
  | 48 => ⟨S16384x1024, .bf16⟩
  | 49 => ⟨S16384x1024, .bf16⟩
  | _ => ⟨S16384x8448, .bf16⟩

abbrev hbmTy (i : Nat) : BufTy := match i / 128 with
  | 0 => hbmTy0_0 i
  | 1 => hbmTy0_1 i
  | _ => ⟨S16384x8448, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S8x576x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x128, .bf16⟩
  | .local _ .vmem, ⟨28, _⟩ => ⟨S1024x128, .bf16⟩
  | .local _ .vmem, ⟨29, _⟩ => ⟨S192x1024, .f32⟩
  | .local _ .vmem, ⟨30, _⟩ => ⟨S1x1024, .f32⟩
  | .local _ .smem, ⟨0, _⟩ => ⟨S16, .f32⟩
  | _, _ => ⟨S16384x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142_0 : Ref sig .tc := ⟨.hbm, 176, rfl⟩
abbrev main_v142_1 : Ref sig .tc := ⟨.hbm, 177, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_40 : BitVec 32 := 0#32
  let c8_i32_41 : BitVec 32 := 8#32
  let v142 : BitVec 32 := Scalar.addi c0_i32_40 c8_i32_41
  let c1_i32_42 : BitVec 32 := 1#32
  ⟨c0_i32_40, v142, c1_i32_42⟩
def k0_mult1 (k0_t1 : Fin k0_t1_loop.trips) : BitVec 32 :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  v143
def k0_off1 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v153 : Index := Scalar.indexCast v144
  let c0_51 : Index := 0#32
  ![v153.toNat, 0]
def k0_off2 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v162 : Index := Scalar.indexCast v144
  let c0_54 : Index := 0#32
  ![v162.toNat, 0]
def k0_off3 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v196 : Index := Scalar.indexCast v144
  let c128 : Index := 128#32
  ![v196.toNat, 128]
def k0_off4 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v205 : Index := Scalar.indexCast v144
  let c128_69 : Index := 128#32
  ![v205.toNat, 128]
def k0_off5 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v239 : Index := Scalar.indexCast v144
  let c256 : Index := 256#32
  ![v239.toNat, 256]
def k0_off6 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v248 : Index := Scalar.indexCast v144
  let c256_84 : Index := 256#32
  ![v248.toNat, 256]
def k0_off7 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v282 : Index := Scalar.indexCast v144
  let c384 : Index := 384#32
  ![v282.toNat, 384]
def k0_off8 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v291 : Index := Scalar.indexCast v144
  let c384_99 : Index := 384#32
  ![v291.toNat, 384]
def k0_off9 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v325 : Index := Scalar.indexCast v144
  let c512_112 : Index := 512#32
  ![v325.toNat, 512]
def k0_off10 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v334 : Index := Scalar.indexCast v144
  let c512_115 : Index := 512#32
  ![v334.toNat, 512]
def k0_off11 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v368 : Index := Scalar.indexCast v144
  let c640 : Index := 640#32
  ![v368.toNat, 640]
def k0_off12 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v377 : Index := Scalar.indexCast v144
  let c640_130 : Index := 640#32
  ![v377.toNat, 640]
def k0_off13 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v411 : Index := Scalar.indexCast v144
  let c768 : Index := 768#32
  ![v411.toNat, 768]
def k0_off14 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v420 : Index := Scalar.indexCast v144
  let c768_145 : Index := 768#32
  ![v420.toNat, 768]
def k0_off15 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v454 : Index := Scalar.indexCast v144
  let c896 : Index := 896#32
  ![v454.toNat, 896]
def k0_off16 (k0_t1 : Fin k0_t1_loop.trips) : Fin 2 → Nat :=
  let c0_i32_40 : BitVec 32 := 0#32
  let c1_i32_42 : BitVec 32 := 1#32
  let arg22 : BitVec 32 := Scf.iv c0_i32_40 c1_i32_42 k0_t1
  let c64_i32 : BitVec 32 := 64#32
  let v143 : BitVec 32 := Scalar.muli arg22 c64_i32
  let v144 : BitVec 32 := v143
  let v463 : Index := Scalar.indexCast v144
  let c896_160 : Index := 896#32
  ![v463.toNat, 896]
def k0_mult2 (k0_t1 : Fin k0_t1_loop.trips) : BitVec 32 :=
  let c384_i32 : BitVec 32 := 384#32
  let c0_i32_40 : BitVec 32 := 0#32
  let c1_i32_42 : BitVec 32 := 1#32
  let arg22 : BitVec 32 := Scf.iv c0_i32_40 c1_i32_42 k0_t1
  let c64_i32_173 : BitVec 32 := 64#32
  let v497 : BitVec 32 := Scalar.muli arg22 c64_i32_173
  let v498 : BitVec 32 := Scalar.addi c384_i32 v497
  v498
def k0_off17 (k0_t1 : Fin k0_t1_loop.trips) : Fin 2 → Nat :=
  let c384_i32 : BitVec 32 := 384#32
  let c0_i32_40 : BitVec 32 := 0#32
  let c1_i32_42 : BitVec 32 := 1#32
  let arg22 : BitVec 32 := Scf.iv c0_i32_40 c1_i32_42 k0_t1
  let c64_i32_173 : BitVec 32 := 64#32
  let v497 : BitVec 32 := Scalar.muli arg22 c64_i32_173
  let v498 : BitVec 32 := Scalar.addi c384_i32 v497
  let v499 : BitVec 32 := v498
  let v500 : Index := Scalar.indexCast v499
  let c0_174 : Index := 0#32
  ![v500.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c6_i32 : BitVec 32 := 6#32
  let c0_i32_0 : BitVec 32 := 0#32
  ![v3.toNat, c6_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c7_i32 : BitVec 32 := 7#32
  let c0_i32_0 : BitVec 32 := 0#32
  ![v3.toNat, c7_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c64_i32 : BitVec 32 := 64#32
  let c0_i32_0 : BitVec 32 := 0#32
  ![v3.toNat, c64_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let c0_i32 : BitVec 32 := 0#32
  ![v1.toNat, c64_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c65_i32 : BitVec 32 := 65#32
  let c0_i32_0 : BitVec 32 := 0#32
  ![v3.toNat, c65_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c65_i32 : BitVec 32 := 65#32
  let c0_i32 : BitVec 32 := 0#32
  ![v1.toNat, c65_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x576x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S16384x8448 : Shape := ⟨2, ![16384, 8448]⟩
abbrev S16x257 : Shape := ⟨2, ![16, 257]⟩
abbrev S16 : Shape := ⟨1, ![16]⟩
abbrev S16384x1024 : Shape := ⟨2, ![16384, 1024]⟩
abbrev S4x4096x16x64 : Shape := ⟨4, ![4, 4096, 16, 64]⟩
abbrev S_ : Shape := ⟨0, ![]⟩
abbrev S4x4608x16x64 : Shape := ⟨4, ![4, 4608, 16, 64]⟩
abbrev S4x72x64x16x64 : Shape := ⟨5, ![4, 72, 64, 16, 64]⟩
abbrev S4x64x64x16x64 : Shape := ⟨5, ![4, 64, 64, 16, 64]⟩
abbrev S4x64x576x16x64 : Shape := ⟨5, ![4, 64, 576, 16, 64]⟩
abbrev S4x64x16x64x576 : Shape := ⟨5, ![4, 64, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1x1x16x64x576 : Shape := ⟨5, ![1, 1, 16, 64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x64x64 : Shape := ⟨5, ![4, 64, 16, 64, 64]⟩

abbrev nBuf : Space → Nat
  | .hbm => 117
  | .vmem => 0
  | .smem => 0
  | _ => 0

abbrev bufTy : (tb : Table) → Fin (tcTables nBuf tb) → BufTy
  | .hbm, ⟨0, _⟩ => ⟨S16384x8448, .bf16⟩
  | .hbm, ⟨1, _⟩ => ⟨S16x257, .f32⟩
  | .hbm, ⟨2, _⟩ => ⟨S16, .f32⟩
  | .hbm, ⟨3, _⟩ => ⟨S16384x1024, .bf16⟩
  | .hbm, ⟨4, _⟩ => ⟨S4x4096x16x64, .bf16⟩
  | .hbm, ⟨5, _⟩ => ⟨S4x4096x16x64, .f32⟩
  | .hbm, ⟨6, _⟩ => ⟨S16384x1024, .bf16⟩
  | .hbm, ⟨7, _⟩ => ⟨S4x4096x16x64, .bf16⟩
  | .hbm, ⟨8, _⟩ => ⟨S4x4096x16x64, .f32⟩
  | .hbm, ⟨9, _⟩ => ⟨S16384x1024, .bf16⟩
  | .hbm, ⟨10, _⟩ => ⟨S4x4096x16x64, .bf16⟩
  | .hbm, ⟨11, _⟩ => ⟨S4x4096x16x64, .f32⟩
  | .hbm, ⟨12, _⟩ => ⟨S_, .i32⟩
  | .hbm, ⟨13, _⟩ => ⟨S_, .f32⟩
  | .hbm, ⟨14, _⟩ => ⟨S4x4608x16x64, .f32⟩
  | .hbm, ⟨15, _⟩ => ⟨S4x72x64x16x64, .f32⟩
  | .hbm, ⟨16, _⟩ => ⟨S4x64x64x16x64, .f32⟩
  | .hbm, ⟨17, _⟩ => ⟨S4x64x64x16x64, .f32⟩
  | .hbm, ⟨18, _⟩ => ⟨S4x64x64x16x64, .f32⟩
  | .hbm, ⟨19, _⟩ => ⟨S4x64x64x16x64, .f32⟩
  | .hbm, ⟨20, _⟩ => ⟨S4x64x64x16x64, .f32⟩
  | .hbm, ⟨21, _⟩ => ⟨S4x64x64x16x64, .f32⟩
  | .hbm, ⟨22, _⟩ => ⟨S4x64x64x16x64, .f32⟩
  | .hbm, ⟨23, _⟩ => ⟨S4x64x64x16x64, .f32⟩
  | .hbm, ⟨24, _⟩ => ⟨S4x64x64x16x64, .f32⟩
  | .hbm, ⟨25, _⟩ => ⟨S4x64x576x16x64, .f32⟩
  | .hbm, ⟨26, _⟩ => ⟨S_, .i32⟩
  | .hbm, ⟨27, _⟩ => ⟨S_, .f32⟩
  | .hbm, ⟨28, _⟩ => ⟨S4x4608x16x64, .f32⟩
  | .hbm, ⟨29, _⟩ => ⟨S4x72x64x16x64, .f32⟩
  | .hbm, ⟨30, _⟩ => ⟨S4x64x64x16x64, .f32⟩
  | .hbm, ⟨31, _⟩ => ⟨S4x64x64x16x64, .f32⟩
  | .hbm, ⟨32, _⟩ => ⟨S4x64x64x16x64, .f32⟩
  | .hbm, ⟨33, _⟩ => ⟨S4x64x64x16x64, .f32⟩
  | .hbm, ⟨34, _⟩ => ⟨S4x64x64x16x64, .f32⟩
  | .hbm, ⟨35, _⟩ => ⟨S4x64x64x16x64, .f32⟩
  | .hbm, ⟨36, _⟩ => ⟨S4x64x64x16x64, .f32⟩
  | .hbm, ⟨37, _⟩ => ⟨S4x64x64x16x64, .f32⟩
  | .hbm, ⟨38, _⟩ => ⟨S4x64x64x16x64, .f32⟩
  | .hbm, ⟨39, _⟩ => ⟨S4x64x576x16x64, .f32⟩
  | .hbm, ⟨40, _⟩ => ⟨S4x64x64x16x64, .f32⟩
  | .hbm, ⟨41, _⟩ => ⟨S4x64x16x64x576, .f32⟩
  | .hbm, ⟨42, _⟩ => ⟨S_, .f32⟩
  | .hbm, ⟨43, _⟩ => ⟨S4x64x16x64x576, .f32⟩
  | .hbm, ⟨44, _⟩ => ⟨S4x64x16x64x576, .f32⟩
  | .hbm, ⟨45, _⟩ => ⟨S64, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S576, .i32⟩
  | .hbm, ⟨51, _⟩ => ⟨S1x576, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S16x64x576, .f32⟩
  | .hbm, ⟨75, _⟩ => ⟨S1x1x16x64x576, .f32⟩
  | .hbm, ⟨76, _⟩ => ⟨S4x64x16x64x576, .f32⟩
  | .hbm, ⟨77, _⟩ => ⟨S4x64x16x64x576, .f32⟩
  | .hbm, ⟨78, _⟩ => ⟨S64, .i32⟩
  | .hbm, ⟨79, _⟩ => ⟨S64x1, .i32⟩
  | .hbm, ⟨80, _⟩ => ⟨S_, .i32⟩
  | .hbm, ⟨81, _⟩ => ⟨S64x1, .i32⟩
  | .hbm, ⟨82, _⟩ => ⟨S64x1, .i32⟩
  | .hbm, ⟨83, _⟩ => ⟨S_, .i32⟩
  | .hbm, ⟨84, _⟩ => ⟨S64x1, .i32⟩
  | .hbm, ⟨85, _⟩ => ⟨S64x1, .i32⟩
  | .hbm, ⟨86, _⟩ => ⟨S576, .i32⟩
  | .hbm, ⟨87, _⟩ => ⟨S1x576, .i32⟩
  | .hbm, ⟨88, _⟩ => ⟨S64x576, .i32⟩
  | .hbm, ⟨89, _⟩ => ⟨S64x576, .i32⟩
  | .hbm, ⟨90, _⟩ => ⟨S64x576, .i32⟩
  | .hbm, ⟨91, _⟩ => ⟨S_, .i32⟩
  | .hbm, ⟨92, _⟩ => ⟨S64x576, .i32⟩
  | .hbm, ⟨93, _⟩ => ⟨S64x576, .i1⟩
  | .hbm, ⟨94, _⟩ => ⟨S1x64x1x1x576, .i1⟩
  | .hbm, ⟨95, _⟩ => ⟨S_, .f32⟩
  | .hbm, ⟨96, _⟩ => ⟨S_, .f32⟩
  | .hbm, ⟨97, _⟩ => ⟨S4x64x16x64x576, .i1⟩
  | .hbm, ⟨98, _⟩ => ⟨S4x64x16x64x576, .f32⟩
  | .hbm, ⟨99, _⟩ => ⟨S4x64x16x64x576, .f32⟩
  | .hbm, ⟨100, _⟩ => ⟨S_, .f32⟩
  | .hbm, ⟨101, _⟩ => ⟨S4x64x16x64, .f32⟩
  | .hbm, ⟨102, _⟩ => ⟨S4x64x16x64x1, .f32⟩
  | .hbm, ⟨103, _⟩ => ⟨S4x64x16x64x576, .f32⟩
  | .hbm, ⟨104, _⟩ => ⟨S4x64x16x64x576, .f32⟩
  | .hbm, ⟨105, _⟩ => ⟨S4x64x16x64x576, .f32⟩
  | .hbm, ⟨106, _⟩ => ⟨S_, .f32⟩
  | .hbm, ⟨107, _⟩ => ⟨S4x64x16x64, .f32⟩
  | .hbm, ⟨108, _⟩ => ⟨S4x64x16x64x1, .f32⟩
  | .hbm, ⟨109, _⟩ => ⟨S4x64x16x64x576, .f32⟩
  | .hbm, ⟨110, _⟩ => ⟨S4x64x16x64x576, .f32⟩
  | .hbm, ⟨111, _⟩ => ⟨S4x64x16x64x576, .bf16⟩
  | .hbm, ⟨112, _⟩ => ⟨S4x64x16x64x576, .f32⟩
  | .hbm, ⟨113, _⟩ => ⟨S4x64x16x64x64, .f32⟩
  | .hbm, ⟨114, _⟩ => ⟨S4x64x64x16x64, .f32⟩
  | .hbm, ⟨115, _⟩ => ⟨S16384x1024, .f32⟩
  | .hbm, ⟨116, _⟩ => ⟨S16384x1024, .bf16⟩
  | _, _ => ⟨S16384x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_2 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_c_5 : Ref sig .tc := ⟨.hbm, 66, rfl⟩
abbrev main_v49 : Ref sig .tc := ⟨.hbm, 67, rfl⟩
abbrev main_v50 : Ref sig .tc := ⟨.hbm, 68, rfl⟩
abbrev main_c_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_7 : Ref sig .tc := ⟨.hbm, 80, rfl⟩
abbrev main_v61 : Ref sig .tc := ⟨.hbm, 81, rfl⟩
abbrev main_v62 : Ref sig .tc := ⟨.hbm, 82, rfl⟩
abbrev main_c_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Proof.Columns.lean ====
module

public import Idealize.ShloMosaic.Lib.Pipeline.ValueKit

@[expose] public section

noncomputable section

namespace Cert.Columns

/-- Where a column of the kernel's order lies among the columns of the weights. -/
def col (k : ℕ) : ℕ :=
  if k < 4096 then k + 4352 else if k < 5120 then k - 4096 else if k < 6144 then k - 2048 else if k < 8192 then k - 5120 else k - 4096

theorem col_lt (k : Fin 8448) : col k.val < 8448 := by
  unfold col; split_ifs <;> omega

end Cert.Columns
-- ==== Proof.Prompt.lean ====
module

public import proofs.«01_k».proof.Defs
public import proofs.«01_k».proof.Proof.Columns
public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ValueKit.Held
public import Idealize.ShloMosaic.Lib.Pointwise
public import Idealize.ShloMosaic.Lib.Pipeline.ReadBack
public import Idealize.ShloMosaic.Lib.Claim

@[expose] public section

set_option maxRecDepth 16384

noncomputable section

namespace Cert.Kernel2Ideal.Tie

open Cert.Kernel2Ideal Cert.Kernel2Ideal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The block indices of the four windows and the grid point's place in its row. -/
theorem idx : ∀ t : Fin cfg0.N, win0_0.index t = ![t.val / 11, 0] ∧ win0_1.index t = ![0, t.val % 11]
    ∧ win0_2.index t = ![t.val / 11, t.val % 11] ∧ win0_3.index t = ![t.val / 11, t.val % 11 - 8] :=
  (by decide +kernel : ∀ t : Fin grid0.N, _)

/-- The copy of the row block that the body keeps is the row block that the run's first point wrote. -/
theorem kept (c : Dev nD) (t : Fin cfg0.N) (j : S1024x2048.Idx) :
    (outsAt0 m c t.val t.isLt).2.2 j = k0_pay1 (F := Ideal) (iblk m c 0 ⟨11 * (t.val / 11), Pipeline.run_start_lt t⟩) j :=
  Pipeline.eq_of_write_hold_apply (fun n h => (outsAt0 m c n h).2.2) 11 (fun t => k0_pay1 (F := Ideal) (iblk m c 0 t))
    (fun t h i => by
      have h1 : ¬8 ≤ t.val % 11 := by have := lt_of_lt_of_eq t.isLt (show cfg0.N = 176 from N_0); omega
      simp only [outsAt0_A m c t h h1]
      frame_out)
    (fun t h i => by
      by_cases h1 : 8 ≤ t.val % 11
      · simp only [outsAt0_C m c t h h1]; rfl
      · simp only [outsAt0_B m c t h h1]; rfl) t j

/-- The rows of the input and the columns of the weights, as the launch leaves them for the grid. -/
def rowsOf (c : Dev nD) : Vec Ideal S16384x2048 .f32 := V m c main_v0
def colsOf (c : Dev nD) : Vec Ideal S2048x8448 .bf16 := V m c main_v10

/-- The product of the two, one entry. -/
def prod (c : Dev nD) (r : Fin 16384) (k : Fin 8448) : EReal :=
  ∑ d : Fin 2048, (rowsOf m c (ix2 r d) : EReal) * (colsOf m c (ix2 d k) : EReal)

theorem rows_read (c : Dev nD) (r : Fin 16384) (d : Fin 2048) : (rowsOf m c (ix2 r d) : EReal) =
    (m ((c.tc : Thread nD τ).loc main_arg0) : Vec Ideal S4x4096x2048 .f32) (ix3 ⟨r.val / 4096, by omega⟩ ⟨r.val % 4096, by omega⟩ d) := by
  unfold rowsOf V V0
  simp only [hostOps0, List.flatten_cons, List.flatten_nil, List.append_nil]
  after_results
  pointwise

/-- The parts of the weights in the kernel's order. -/
def permuted (w : Vec Ideal S2048x8448 .f32) : Vec Ideal S2048x8448 .bf16 :=
  truncf (F := Ideal) (φ := .f32) .bf16 (concatenate S2048x8448 1 [
      ⟨S2048x2048, extractStridedSlice S2048x2048 ![0, 4352] w slices_S2048x8448_S2048x2048_0_4352⟩,
      ⟨S2048x2048, extractStridedSlice S2048x2048 ![0, 6400] w slices_S2048x8448_S2048x2048_0_6400⟩,
      ⟨S2048x1024, extractStridedSlice S2048x1024 ![0, 0] w slices_S2048x8448_S2048x1024_0_0⟩,
      ⟨S2048x1024, extractStridedSlice S2048x1024 ![0, 3072] w slices_S2048x8448_S2048x1024_0_3072⟩,
      ⟨S2048x1024, extractStridedSlice S2048x1024 ![0, 1024] w slices_S2048x8448_S2048x1024_0_1024⟩,
      ⟨S2048x1024, extractStridedSlice S2048x1024 ![0, 2048] w slices_S2048x8448_S2048x1024_0_2048⟩,
      ⟨S2048x128, extractStridedSlice S2048x128 ![0, 4096] w slices_S2048x8448_S2048x128_0_4096⟩,
      ⟨S2048x128, extractStridedSlice S2048x128 ![0, 4224] w slices_S2048x8448_S2048x128_0_4224⟩]
      concatenates_S2048x2048_S2048x2048_S2048x1024_S2048x1024_S2048x1024_S2048x1024_S2048x128_S2048x128_S2048x8448_d1) bitsLt_bf16_f32

theorem cols_eq (c : Dev nD) : colsOf m c = permuted (m ((c.tc : Thread nD τ).loc main_arg1)) := by
  unfold colsOf V V0
  simp only [hostOps0, List.flatten_cons, List.flatten_nil, List.append_nil]
  after_results
  rfl

theorem cols_read (c : Dev nD) (d : Fin 2048) (k : Fin 8448) : (colsOf m c (ix2 d k) : EReal) =
    (m ((c.tc : Thread nD τ).loc main_arg1) : Vec Ideal S2048x8448 .f32) (ix2 d ⟨col k.val, col_lt k⟩) := by
  rw [cols_eq]
  pointwise [permuted]
  split_ifs
  all_goals refine congrArg _ (congrArg (ix2 d) (Fin.ext ?_))
  all_goals (simp only [col]; split_ifs <;> omega)

theorem arr2 (c : Dev nD) : ((dats m 0 c).arrAt 2 cfg0.N : Vec Ideal S16384x8448 .bf16) = (fun y : S16384x8448.Idx => prod m c (y 0) (y 1)) := by
  refine (dats m 0 c).arrAt_eq_of_covers 2 _ (by decide +kernel) fun t hf y => ?_
  obtain ⟨i0, i1, i2, i3⟩ := idx t
  have ht := lt_of_lt_of_eq t.isLt (show cfg0.N = 176 from N_0)
  blk_simp
  rw [after0_2]
  have key : (outsAt0 m c t.val t.isLt).1 = k0_pay3 (F := Ideal) (k0_pay1 (iblk m c 0 ⟨11 * (t.val / 11), Pipeline.run_start_lt t⟩)) (iblk m c 1 t) := by
    by_cases h0 : t.val % 11 = 0
    · have h1 : ¬8 ≤ t.val % 11 := by omega
      have e : (⟨11 * (t.val / 11), Pipeline.run_start_lt t⟩ : Fin cfg0.N) = t := Fin.ext (by show 11 * (t.val / 11) = t.val; omega)
      rw [outsAt0_A m c t h0 h1, e]
      funext y
      frame_out
    · have hk := funext (kept m c ⟨t.val - 1, Nat.lt_of_le_of_lt (Nat.sub_le _ _) t.isLt⟩)
      have e : (⟨11 * ((t.val - 1) / 11), Pipeline.run_start_lt ⟨t.val - 1, Nat.lt_of_le_of_lt (Nat.sub_le _ _) t.isLt⟩⟩ : Fin cfg0.N) = ⟨11 * (t.val / 11), Pipeline.run_start_lt t⟩ := Fin.ext (by show 11 * ((t.val - 1) / 11) = 11 * (t.val / 11); omega)
      rw [e] at hk
      funext y
      by_cases h1 : 8 ≤ t.val % 11
      · rw [outsAt0_C m c t h0 h1]
        frame_out
        simp only [read_unread_whole]
        rw [hk]
      · rw [outsAt0_B m c t h0 h1]
        frame_out
        simp only [read_unread_whole]
        rw [hk]
  rw [key]
  idx_vars y
  pointwise [k0_pay3, k0_pay2, k0_pay1, prod, rowsOf, colsOf]
  blk_point [iblk, V, idx t, idx ⟨11 * (t.val / 11), Pipeline.run_start_lt t⟩]

/-- The product's columns that the second output takes. -/
theorem arr3 (c : Dev nD) : ((dats m 0 c).arrAt 3 cfg0.N : Vec Ideal S16384x2304 .f32) =
    (fun y : S16384x2304.Idx => prod m c (y 0) ⟨(y 1).val + 6144, by have : (y 1).val < 2304 := (y 1).isLt; omega⟩) := by
  refine (dats m 0 c).arrAt_eq_of_covers 3 _ (by decide +kernel) fun t hf y => ?_
  have ht := lt_of_lt_of_eq t.isLt (show cfg0.N = 176 from N_0)
  have h1 : 8 ≤ t.val % 11 := by
    have h := (by decide +kernel : ∀ t : Fin grid0.N, (win0 3).flush t = true → 8 ≤ t.val % 11)
    exact h t hf
  have h0 : ¬t.val % 11 = 0 := by omega
  blk_simp
  rw [after0_3]
  have hk := funext (kept m c ⟨t.val - 1, Nat.lt_of_le_of_lt (Nat.sub_le _ _) t.isLt⟩)
  have e : (⟨11 * ((t.val - 1) / 11), Pipeline.run_start_lt ⟨t.val - 1, Nat.lt_of_le_of_lt (Nat.sub_le _ _) t.isLt⟩⟩ : Fin cfg0.N) = ⟨11 * (t.val / 11), Pipeline.run_start_lt t⟩ := Fin.ext (by show 11 * ((t.val - 1) / 11) = 11 * (t.val / 11); omega)
  rw [e] at hk
  rw [outsAt0_C m c t h0 (by omega)]
  frame_out
  simp only [read_unread_whole]
  rw [hk]
  idx_vars y
  pointwise [k0_pay2, k0_pay1, prod, rowsOf, colsOf]
  blk_point [iblk, V, idx t, idx ⟨11 * (t.val / 11), Pipeline.run_start_lt t⟩]

/-- What the second output holds after the grid. -/
abbrev kvOf (c : Dev nD) : Vec Ideal S16384x2304 .f32 := (dats m 0 c).arrAt 3 cfg0.N

theorem kv_exit (c : Dev nD) : Pipeline.withArrays (cfgs 0).spec c (V0 m c) (fun w => (dats m 0 c).arrAt w (cfgs 0).N) (Proc.devRef .tc main_v11_1) = kvOf m c :=
  Pipeline.withArrays_arr spec0 (by decide) c _ _ 3

/-- The columns of the second output that the host takes out, reshaped to heads, their last rows. -/
theorem tails (c : Dev nD) :
    (Pipeline.afterTail₀ cfgs (dats m) 0 (V0 m) [hostOps1] c main_v20 : Vec Ideal S4x128x2x64 .f32) =
      extractStridedSlice S4x128x2x64 ![0, 3968, 0, 0] (shapeCast S4x4096x2x64 (extractStridedSlice S16384x128 ![0, 2048] (kvOf m c) slices_S16384x2304_S16384x128_0_2048) shapeCasts_S16384x128_S4x4096x2x64) slices_S4x4096x2x64_S4x128x2x64_0_3968_0_0
    ∧ (Pipeline.afterTail₀ cfgs (dats m) 0 (V0 m) [hostOps1] c main_v21 : Vec Ideal S4x128x2x64 .f32) =
      extractStridedSlice S4x128x2x64 ![0, 3968, 0, 0] (shapeCast S4x4096x2x64 (extractStridedSlice S16384x128 ![0, 2176] (kvOf m c) slices_S16384x2304_S16384x128_0_2176) shapeCasts_S16384x128_S4x4096x2x64) slices_S4x4096x2x64_S4x128x2x64_0_3968_0_0 := by
  unfold Pipeline.afterTail₀
  simp only [hostOps1, List.flatten_cons, List.flatten_nil, List.append_nil]
  rw [← kv_exit m c]
  refine ⟨?_, ?_⟩ <;> after_results <;> rfl

/-- The two argument arrays. -/
def xOf (c : Dev nD) : Vec Ideal S4x4096x2048 .f32 := m ((c.tc : Thread nD τ).loc main_arg0)
def wOf (c : Dev nD) : Vec Ideal S2048x8448 .f32 := m ((c.tc : Thread nD τ).loc main_arg1)

/-- The kernel's product is the reference's, the columns in the kernel's order. -/
theorem prod_eq (c : Dev nD) (r : Fin 16384) (k : Fin 8448) : prod m c r k =
    ∑ d : Fin 2048, (xOf m c (ix3 ⟨r.val / 4096, by omega⟩ ⟨r.val % 4096, by omega⟩ d) : EReal) * (wOf m c (ix2 d ⟨col k.val, col_lt k⟩) : EReal) :=
  Finset.sum_congr rfl fun d _ => by rw [rows_read, cols_read]; rfl

theorem entry_eq (c : Dev nD) {a a' : Fin 4} {b b' : Fin 4096} {k k' : Fin 8448} (ha : a.val = a'.val) (hb : b.val = b'.val) (hk : k.val = k'.val) :
    ∑ d : Fin 2048, (xOf m c (ix3 a b d) : EReal) * (wOf m c (ix2 d k) : EReal) = ∑ d : Fin 2048, (xOf m c (ix3 a' b' d) : EReal) * (wOf m c (ix2 d k') : EReal) := by
  rw [Fin.ext ha, Fin.ext hb, Fin.ext hk]

set_option maxHeartbeats 2000000 in
theorem alg2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
    · exact W_main_arg0 m (dats m) c
    · exact W_main_arg1 m (dats m) c
  · run_from Cert.Reference2Ideal.Value.run m' g'
    · refine Eq.trans ?_ (arr2 m c).symm
      funext y
      idx_vars y
      pointwise [prod_eq]
      split_ifs
      all_goals exact entry_eq m c (by dsimp only) (by dsimp only) (by dsimp only [col]; split_ifs <;> omega)
    · refine Eq.trans ?_ (arr3 m c).symm
      funext y
      idx_vars y
      pointwise [prod_eq]
      split_ifs
      all_goals exact entry_eq m c (by dsimp only) (by dsimp only) (by dsimp only [col]; split_ifs <;> omega)
    · refine Eq.trans ?_ ((tails m c).1).symm
      unfold kvOf
      rw [arr3]
      funext y
      idx_vars y
      pointwise [prod_eq]
      exact entry_eq m c (by dsimp only; omega) (by dsimp only; omega) (by dsimp only [col]; split_ifs <;> omega)
    · refine Eq.trans ?_ ((tails m c).2).symm
      unfold kvOf
      rw [arr3]
      funext y
      idx_vars y
      pointwise [prod_eq]
      exact entry_eq m c (by dsimp only; omega) (by dsimp only; omega) (by dsimp only [col]; split_ifs <;> omega)

end Cert.Kernel2Ideal.Tie
-- ==== Proof.Sample.lean ====
module

public import proofs.«01_k».proof.Defs
public import proofs.«01_k».proof.Proof.Columns
public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ValueKit.Held
public import Idealize.ShloMosaic.Lib.Pointwise
public import Idealize.ShloMosaic.Lib.Pipeline.ReadBack
public import Idealize.ShloMosaic.Lib.Claim

@[expose] public section

set_option maxRecDepth 16384

noncomputable section

namespace Cert.Kernel3Ideal.Tie

open Cert.Kernel3Ideal Cert.Kernel3Ideal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The block indices of the four windows and the grid point's place in its row. -/
theorem idx : ∀ t : Fin cfg0.N, win0_0.index t = ![t.val / 11, 0] ∧ win0_1.index t = ![0, t.val % 11]
    ∧ win0_2.index t = ![t.val / 11, t.val % 11] ∧ win0_3.index t = ![t.val / 11, t.val % 11 - 8] :=
  (by decide +kernel : ∀ t : Fin grid0.N, _)

/-- The copy of the row block that the body keeps is the row block that the run's first point wrote. -/
theorem kept (c : Dev nD) (t : Fin cfg0.N) (j : S128x2048.Idx) :
    (outsAt0 m c t.val t.isLt).2.2 j = k0_pay1 (F := Ideal) (iblk m c 0 ⟨11 * (t.val / 11), Pipeline.run_start_lt t⟩) j :=
  Pipeline.eq_of_write_hold_apply (fun n h => (outsAt0 m c n h).2.2) 11 (fun t => k0_pay1 (F := Ideal) (iblk m c 0 t))
    (fun t h i => by
      have h1 : ¬8 ≤ t.val := by have := lt_of_lt_of_eq t.isLt (show cfg0.N = 11 from N_0); omega
      simp only [outsAt0_A m c t h h1]
      frame_out)
    (fun t h i => by
      by_cases h1 : 8 ≤ t.val
      · simp only [outsAt0_C m c t h h1]; rfl
      · simp only [outsAt0_B m c t h h1]; rfl) t j

/-- The rows of the input and the columns of the weights, as the launch leaves them for the grid. -/
def rowsOf (c : Dev nD) : Vec Ideal S128x2048 .f32 := V m c main_v0
def colsOf (c : Dev nD) : Vec Ideal S2048x8448 .bf16 := V m c main_v10

/-- The product of the two, one entry. -/
def prod (c : Dev nD) (r : Fin 128) (k : Fin 8448) : EReal :=
  ∑ d : Fin 2048, (rowsOf m c (ix2 r d) : EReal) * (colsOf m c (ix2 d k) : EReal)

theorem rows_read (c : Dev nD) (r : Fin 128) (d : Fin 2048) : (rowsOf m c (ix2 r d) : EReal) =
    (m ((c.tc : Thread nD τ).loc main_arg0) : Vec Ideal S8x16x2048 .f32) (ix3 ⟨r.val / 16, by omega⟩ ⟨r.val % 16, by omega⟩ d) := by
  unfold rowsOf V V0
  simp only [hostOps0, List.flatten_cons, List.flatten_nil, List.append_nil]
  after_results
  pointwise

/-- The parts of the weights in the kernel's order. -/
def permuted (w : Vec Ideal S2048x8448 .f32) : Vec Ideal S2048x8448 .bf16 :=
  truncf (F := Ideal) (φ := .f32) .bf16 (concatenate S2048x8448 1 [
      ⟨S2048x2048, extractStridedSlice S2048x2048 ![0, 4352] w slices_S2048x8448_S2048x2048_0_4352⟩,
      ⟨S2048x2048, extractStridedSlice S2048x2048 ![0, 6400] w slices_S2048x8448_S2048x2048_0_6400⟩,
      ⟨S2048x1024, extractStridedSlice S2048x1024 ![0, 0] w slices_S2048x8448_S2048x1024_0_0⟩,
      ⟨S2048x1024, extractStridedSlice S2048x1024 ![0, 3072] w slices_S2048x8448_S2048x1024_0_3072⟩,
      ⟨S2048x1024, extractStridedSlice S2048x1024 ![0, 1024] w slices_S2048x8448_S2048x1024_0_1024⟩,
      ⟨S2048x1024, extractStridedSlice S2048x1024 ![0, 2048] w slices_S2048x8448_S2048x1024_0_2048⟩,
      ⟨S2048x128, extractStridedSlice S2048x128 ![0, 4096] w slices_S2048x8448_S2048x128_0_4096⟩,
      ⟨S2048x128, extractStridedSlice S2048x128 ![0, 4224] w slices_S2048x8448_S2048x128_0_4224⟩]
      concatenates_S2048x2048_S2048x2048_S2048x1024_S2048x1024_S2048x1024_S2048x1024_S2048x128_S2048x128_S2048x8448_d1) bitsLt_bf16_f32

theorem cols_eq (c : Dev nD) : colsOf m c = permuted (m ((c.tc : Thread nD τ).loc main_arg1)) := by
  unfold colsOf V V0
  simp only [hostOps0, List.flatten_cons, List.flatten_nil, List.append_nil]
  after_results
  rfl

theorem cols_read (c : Dev nD) (d : Fin 2048) (k : Fin 8448) : (colsOf m c (ix2 d k) : EReal) =
    (m ((c.tc : Thread nD τ).loc main_arg1) : Vec Ideal S2048x8448 .f32) (ix2 d ⟨col k.val, col_lt k⟩) := by
  rw [cols_eq]
  pointwise [permuted]
  split_ifs
  all_goals refine congrArg _ (congrArg (ix2 d) (Fin.ext ?_))
  all_goals (simp only [col]; split_ifs <;> omega)

theorem arr2 (c : Dev nD) : ((dats m 0 c).arrAt 2 cfg0.N : Vec Ideal S128x8448 .bf16) = (fun y : S128x8448.Idx => prod m c (y 0) (y 1)) := by
  refine (dats m 0 c).arrAt_eq_of_covers 2 _ (by decide +kernel) fun t hf y => ?_
  obtain ⟨i0, i1, i2, i3⟩ := idx t
  have ht := lt_of_lt_of_eq t.isLt (show cfg0.N = 11 from N_0)
  blk_simp
  rw [after0_2]
  have key : (outsAt0 m c t.val t.isLt).1 = k0_pay3 (F := Ideal) (k0_pay1 (iblk m c 0 ⟨11 * (t.val / 11), Pipeline.run_start_lt t⟩)) (iblk m c 1 t) := by
    by_cases h0 : t.val % 11 = 0
    · have h1 : ¬8 ≤ t.val := by omega
      have e : (⟨11 * (t.val / 11), Pipeline.run_start_lt t⟩ : Fin cfg0.N) = t := Fin.ext (by show 11 * (t.val / 11) = t.val; omega)
      rw [outsAt0_A m c t h0 h1, e]
      funext y
      frame_out
    · have hk := funext (kept m c ⟨t.val - 1, Nat.lt_of_le_of_lt (Nat.sub_le _ _) t.isLt⟩)
      have e : (⟨11 * ((t.val - 1) / 11), Pipeline.run_start_lt ⟨t.val - 1, Nat.lt_of_le_of_lt (Nat.sub_le _ _) t.isLt⟩⟩ : Fin cfg0.N) = ⟨11 * (t.val / 11), Pipeline.run_start_lt t⟩ := Fin.ext (by show 11 * ((t.val - 1) / 11) = 11 * (t.val / 11); omega)
      rw [e] at hk
      funext y
      by_cases h1 : 8 ≤ t.val
      · rw [outsAt0_C m c t h0 h1]
        frame_out
        simp only [read_unread_whole]
        rw [hk]
      · rw [outsAt0_B m c t h0 h1]
        frame_out
        simp only [read_unread_whole]
        rw [hk]
  rw [key]
  idx_vars y
  pointwise [k0_pay3, k0_pay2, k0_pay1, prod, rowsOf, colsOf]
  blk_point [iblk, V, idx t, idx ⟨11 * (t.val / 11), Pipeline.run_start_lt t⟩]

/-- The product's columns that the second output takes. -/
theorem arr3 (c : Dev nD) : ((dats m 0 c).arrAt 3 cfg0.N : Vec Ideal S128x2304 .f32) =
    (fun y : S128x2304.Idx => prod m c (y 0) ⟨(y 1).val + 6144, by have : (y 1).val < 2304 := (y 1).isLt; omega⟩) := by
  refine (dats m 0 c).arrAt_eq_of_covers 3 _ (by decide +kernel) fun t hf y => ?_
  have ht := lt_of_lt_of_eq t.isLt (show cfg0.N = 11 from N_0)
  have h1 : 8 ≤ t.val % 11 := by
    have h := (by decide +kernel : ∀ t : Fin grid0.N, (win0 3).flush t = true → 8 ≤ t.val % 11)
    exact h t hf
  have h0 : ¬t.val % 11 = 0 := by omega
  blk_simp
  rw [after0_3]
  have hk := funext (kept m c ⟨t.val - 1, Nat.lt_of_le_of_lt (Nat.sub_le _ _) t.isLt⟩)
  have e : (⟨11 * ((t.val - 1) / 11), Pipeline.run_start_lt ⟨t.val - 1, Nat.lt_of_le_of_lt (Nat.sub_le _ _) t.isLt⟩⟩ : Fin cfg0.N) = ⟨11 * (t.val / 11), Pipeline.run_start_lt t⟩ := Fin.ext (by show 11 * ((t.val - 1) / 11) = 11 * (t.val / 11); omega)
  rw [e] at hk
  rw [outsAt0_C m c t h0 (by omega)]
  frame_out
  simp only [read_unread_whole]
  rw [hk]
  idx_vars y
  pointwise [k0_pay2, k0_pay1, prod, rowsOf, colsOf]
  blk_point [iblk, V, idx t, idx ⟨11 * (t.val / 11), Pipeline.run_start_lt t⟩]

/-- What the second output holds after the grid. -/
abbrev kvOf (c : Dev nD) : Vec Ideal S128x2304 .f32 := (dats m 0 c).arrAt 3 cfg0.N

theorem kv_exit (c : Dev nD) : Pipeline.withArrays (cfgs 0).spec c (V0 m c) (fun w => (dats m 0 c).arrAt w (cfgs 0).N) (Proc.devRef .tc main_v11_1) = kvOf m c :=
  Pipeline.withArrays_arr spec0 (by decide) c _ _ 3

/-- The columns of the second output that the host takes out, reshaped to heads. -/
theorem tails (c : Dev nD) :
    (Pipeline.afterTail₀ cfgs (dats m) 0 (V0 m) [hostOps1] c main_v13 : Vec Ideal S8x16x16x64 .f32) =
      shapeCast S8x16x16x64 (extractStridedSlice S128x1024 ![0, 0] (kvOf m c) slices_S128x2304_S128x1024_0_0) shapeCasts_S128x1024_S8x16x16x64
    ∧ (Pipeline.afterTail₀ cfgs (dats m) 0 (V0 m) [hostOps1] c main_v15 : Vec Ideal S8x16x16x64 .f32) =
      shapeCast S8x16x16x64 (extractStridedSlice S128x1024 ![0, 1024] (kvOf m c) slices_S128x2304_S128x1024_0_1024) shapeCasts_S128x1024_S8x16x16x64
    ∧ (Pipeline.afterTail₀ cfgs (dats m) 0 (V0 m) [hostOps1] c main_v17 : Vec Ideal S8x16x2x64 .f32) =
      shapeCast S8x16x2x64 (extractStridedSlice S128x128 ![0, 2048] (kvOf m c) slices_S128x2304_S128x128_0_2048) shapeCasts_S128x128_S8x16x2x64
    ∧ (Pipeline.afterTail₀ cfgs (dats m) 0 (V0 m) [hostOps1] c main_v19 : Vec Ideal S8x16x2x64 .f32) =
      shapeCast S8x16x2x64 (extractStridedSlice S128x128 ![0, 2176] (kvOf m c) slices_S128x2304_S128x128_0_2176) shapeCasts_S128x128_S8x16x2x64 := by
  unfold Pipeline.afterTail₀
  simp only [hostOps1, List.flatten_cons, List.flatten_nil, List.append_nil]
  rw [← kv_exit m c]
  refine ⟨?_, ?_, ?_, ?_⟩ <;> after_results <;> rfl

/-- The two argument arrays. -/
def xOf (c : Dev nD) : Vec Ideal S8x16x2048 .f32 := m ((c.tc : Thread nD τ).loc main_arg0)
def wOf (c : Dev nD) : Vec Ideal S2048x8448 .f32 := m ((c.tc : Thread nD τ).loc main_arg1)

/-- The kernel's product is the reference's, the columns in the kernel's order. -/
theorem prod_eq (c : Dev nD) (r : Fin 128) (k : Fin 8448) : prod m c r k =
    ∑ d : Fin 2048, (xOf m c (ix3 ⟨r.val / 16, by omega⟩ ⟨r.val % 16, by omega⟩ d) : EReal) * (wOf m c (ix2 d ⟨col k.val, col_lt k⟩) : EReal) :=
  Finset.sum_congr rfl fun d _ => by rw [rows_read, cols_read]; rfl

theorem entry_eq (c : Dev nD) {a a' : Fin 8} {b b' : Fin 16} {k k' : Fin 8448} (ha : a.val = a'.val) (hb : b.val = b'.val) (hk : k.val = k'.val) :
    ∑ d : Fin 2048, (xOf m c (ix3 a b d) : EReal) * (wOf m c (ix2 d k) : EReal) = ∑ d : Fin 2048, (xOf m c (ix3 a' b' d) : EReal) * (wOf m c (ix2 d k') : EReal) := by
  rw [Fin.ext ha, Fin.ext hb, Fin.ext hk]

set_option maxHeartbeats 2000000 in
theorem alg3 : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
    · exact W_main_arg0 m (dats m) c
    · exact W_main_arg1 m (dats m) c
  · run_from Cert.Reference3Ideal.Value.run m' g'
    · refine Eq.trans ?_ (arr2 m c).symm
      funext y
      idx_vars y
      pointwise [prod_eq]
      split_ifs
      all_goals exact entry_eq m c (by dsimp only) (by dsimp only) (by dsimp only [col]; split_ifs <;> omega)
    · refine Eq.trans ?_ ((tails m c).1).symm
      unfold kvOf
      rw [arr3]
      funext y
      idx_vars y
      pointwise [prod_eq]
      exact entry_eq m c (by dsimp only; omega) (by dsimp only; omega) (by dsimp only [col]; split_ifs <;> omega)
    · refine Eq.trans ?_ ((tails m c).2.1).symm
      unfold kvOf
      rw [arr3]
      funext y
      idx_vars y
      pointwise [prod_eq]
      exact entry_eq m c (by dsimp only; omega) (by dsimp only; omega) (by dsimp only [col]; split_ifs <;> omega)
    · refine Eq.trans ?_ ((tails m c).2.2.1).symm
      unfold kvOf
      rw [arr3]
      funext y
      idx_vars y
      pointwise [prod_eq]
      exact entry_eq m c (by dsimp only; omega) (by dsimp only; omega) (by dsimp only [col]; split_ifs <;> omega)
    · refine Eq.trans ?_ ((tails m c).2.2.2).symm
      unfold kvOf
      rw [arr3]
      funext y
      idx_vars y
      pointwise [prod_eq]
      exact entry_eq m c (by dsimp only; omega) (by dsimp only; omega) (by dsimp only [col]; split_ifs <;> omega)

end Cert.Kernel3Ideal.Tie
-- ==== Proof.Cache.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Tie

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The block indices of the first input window. -/
theorem idx_0 : ∀ t : Fin cfg0.N, win0_0.index t = ![8 * t.val + 7, 0] :=
  (by decide +kernel : ∀ t : Fin grid0.N, _)

/-- The block indices of the second input window. -/
theorem idx_1 : ∀ t : Fin cfg0.N, win0_1.index t = ![8 * t.val + 7, 1] :=
  (by decide +kernel : ∀ t : Fin grid0.N, _)

/-- The block indices of the four windows. -/
theorem idx : ∀ t : Fin cfg0.N, win0_0.index t = ![8 * t.val + 7, 0] ∧ win0_1.index t = ![8 * t.val + 7, 1]
    ∧ win0_2.index t = ![t.val, 0, 0, 0] ∧ win0_3.index t = ![t.val, 0, 0, 0] :=
  (by decide +kernel : ∀ t : Fin grid0.N, _)

/-- The argument array. -/
def xOf (c : Dev nD) : Vec Ideal S16384x2304 .f32 := m ((c.tc : Thread nD τ).loc main_arg0)

/-- Row `b·4096 + 3584 + r` and column `o + 64·g + d` of the argument. -/
def rowsOf (c : Dev nD) (o : ℕ) (ho : o ≤ 1024) (b : Fin 4) (r : Fin 512) (g : Fin 16) (d : Fin 64) : Elt Ideal .f32 :=
  xOf m c (ix2 ⟨b.val * 4096 + 3584 + r.val, by omega⟩ ⟨o + (g.val * 64 + d.val), by omega⟩)

/-- The first window's block, element by element. -/
theorem block0 (c : Dev nD) (t : Fin cfg0.N) (r : Fin 512) (k : Fin 1024) :
    (X0_0 m c t : Vec Ideal S512x1024 .f32) (ix2 r k) =
      xOf m c (ix2 ⟨t.val * 4096 + 3584 + r.val, by have ht : t.val < 4 := t.isLt; omega⟩ ⟨k.val, by omega⟩) := by
  have ht : t.val < 4 := t.isLt
  have hm : (cfg0.win 0).moved (cfg0.grid.coords t) (ix2 r k) = true := by
    refine ((cfg0.win 0).moved_iff _ _).mpr fun a => ?_
    have hc : (cfg0.win 0).xsize (cfg0.grid.coords t) = ![512, 1024] := by
      revert t; decide +kernel
    rw [hc]
    fin_cases a
    · exact r.isLt
    · exact k.isLt
  unfold X0_0 Pipeline.Window.fill
  rw [dif_pos hm]
  blk_simp [iblk, V, idx t]
  refine congrArg (xOf m c) (funext fun a => Fin.ext ?_)
  have e : ∀ a, (win0_0.index t a * (![512, 1024] : Fin 2 → ℕ) a + 1 * (ix2 r k a).val) =
      (ix2 (⟨t.val * 4096 + 3584 + r.val, by omega⟩ : Fin 16384) (⟨k.val, by omega⟩ : Fin 2304) a).val := by
    intro a
    rw [idx_0 t]
    fin_cases a
    · show (8 * t.val + 7) * 512 + 1 * r.val = t.val * 4096 + 3584 + r.val
      omega
    · show 0 * 1024 + 1 * k.val = k.val
      omega
  exact e a

/-- The second window's block, element by element. -/
theorem block1 (c : Dev nD) (t : Fin cfg0.N) (r : Fin 512) (k : Fin 1024) :
    (X0_1 m c t : Vec Ideal S512x1024 .f32) (ix2 r k) =
      xOf m c (ix2 ⟨t.val * 4096 + 3584 + r.val, by have ht : t.val < 4 := t.isLt; omega⟩ ⟨1024 + k.val, by omega⟩) := by
  have ht : t.val < 4 := t.isLt
  have hm : (cfg0.win 1).moved (cfg0.grid.coords t) (ix2 r k) = true := by
    refine ((cfg0.win 1).moved_iff _ _).mpr fun a => ?_
    have hc : (cfg0.win 1).xsize (cfg0.grid.coords t) = ![512, 1024] := by
      revert t; decide +kernel
    rw [hc]
    fin_cases a
    · exact r.isLt
    · exact k.isLt
  unfold X0_1 Pipeline.Window.fill
  rw [dif_pos hm]
  blk_simp [iblk, V, idx t]
  refine congrArg (xOf m c) (funext fun a => Fin.ext ?_)
  have e : ∀ a, (win0_1.index t a * (![512, 1024] : Fin 2 → ℕ) a + 1 * (ix2 r k a).val) =
      (ix2 (⟨t.val * 4096 + 3584 + r.val, by omega⟩ : Fin 16384) (⟨1024 + k.val, by omega⟩ : Fin 2304) a).val := by
    intro a
    rw [idx_1 t]
    fin_cases a
    · show (8 * t.val + 7) * 512 + 1 * r.val = t.val * 4096 + 3584 + r.val
      omega
    · show 1 * 1024 + 1 * k.val = 1024 + k.val
      omega
  exact e a

set_option maxHeartbeats 2000000 in
/-- The array the kernel leaves in its first result. -/
theorem arr2 (c : Dev nD) : ((dats m 0 c).arrAt 2 cfg0.N : Vec Ideal S4x512x16x64 .f32) =
    (fun y : S4x512x16x64.Idx => rowsOf m c 0 (by decide) (y 0) (y 1) (y 2) (y 3)) := by
  refine (dats m 0 c).arrAt_eq_of_covers 2 _ (by decide +kernel) fun t hf y => ?_
  simp only [rowsOf]
  blk_simp [idx t]
  rw [after0_2]
  simp only [outsAt0]
  frame_out
  have lt4 : t.val < 4 := t.isLt
  have eb := block0 m c t
  generalize (X0_0 m c t : Vec Ideal S512x1024 .f32) = X at eb ⊢
  canon_tiles x h
  all_goals
    open_payloads
    pointwise [eb, h0, h1, h2, h3]

set_option maxHeartbeats 2000000 in
/-- The array the kernel leaves in its second result. -/
theorem arr3 (c : Dev nD) : ((dats m 0 c).arrAt 3 cfg0.N : Vec Ideal S4x512x16x64 .f32) =
    (fun y : S4x512x16x64.Idx => rowsOf m c 1024 (by decide) (y 0) (y 1) (y 2) (y 3)) := by
  refine (dats m 0 c).arrAt_eq_of_covers 3 _ (by decide +kernel) fun t hf y => ?_
  simp only [rowsOf]
  blk_simp [idx t]
  rw [after0_3]
  simp only [outsAt0]
  frame_out
  have lt4 : t.val < 4 := t.isLt
  have eb := block1 m c t
  generalize (X0_1 m c t : Vec Ideal S512x1024 .f32) = X at eb ⊢
  canon_tiles x h
  all_goals
    open_payloads
    pointwise [eb, h0, h1, h2, h3]

/-- The argument as one table per sequence. -/
theorem cast_rows (X : Vec Ideal S16384x2304 .f32) (b : Fin 4) (r : Fin 4096) (k : Fin 2304) :
    shapeCast Reference4Ideal.S4x4096x2304 X Reference4Ideal.Gen.shapeCasts_S16384x2304_S4x4096x2304 (ix3 b r k) =
      X (ix2 ⟨b.val * 4096 + r.val, by omega⟩ k) := by
  pointwise

/-- The columns of a table as heads. -/
theorem cast_heads (X : Vec Ideal Reference4Ideal.S4x4096x1024 .f32) (b : Fin 4) (r : Fin 4096) (g : Fin 16) (d : Fin 64) :
    shapeCast Reference4Ideal.S4x4096x16x64 X Reference4Ideal.Gen.shapeCasts_S4x4096x1024_S4x4096x16x64 (ix4 b r g d) =
      X (ix3 b r ⟨g.val * 64 + d.val, by omega⟩) := by
  pointwise

/-- The last rows of every sequence. -/
theorem cut_rows (X : Vec Ideal Reference4Ideal.S4x4096x16x64 .f32) (b : Fin 4) (r : Fin 512) (g : Fin 16) (d : Fin 64) :
    extractStridedSlice Reference4Ideal.S4x512x16x64 ![0, 3584, 0, 0] X
        Reference4Ideal.Gen.slices_S4x4096x16x64_S4x512x16x64_0_3584_0_0 (ix4 b r g d) =
      X (ix4 b ⟨3584 + r.val, by omega⟩ g d) := by
  pointwise

/-- The columns of the keys. -/
theorem cut_keys (X : Vec Ideal Reference4Ideal.S4x4096x2304 .f32) (b : Fin 4) (r : Fin 4096) (k : Fin 1024) :
    extractStridedSlice Reference4Ideal.S4x4096x1024 ![0, 0, 0] X
        Reference4Ideal.Gen.slices_S4x4096x2304_S4x4096x1024_0_0_0 (ix3 b r k) = X (ix3 b r ⟨0 + k.val, by omega⟩) := by
  pointwise

/-- The columns of the values. -/
theorem cut_values (X : Vec Ideal Reference4Ideal.S4x4096x2304 .f32) (b : Fin 4) (r : Fin 4096) (k : Fin 1024) :
    extractStridedSlice Reference4Ideal.S4x4096x1024 ![0, 0, 1024] X
        Reference4Ideal.Gen.slices_S4x4096x2304_S4x4096x1024_0_0_1024 (ix3 b r k) = X (ix3 b r ⟨1024 + k.val, by omega⟩) := by
  pointwise

/-- Both results of the cut-out are the reference's. -/
theorem alg4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · refine Eq.trans ?_ (arr2 m c).symm
      funext y
      idx_vars y
      refine (cut_rows _ _ _ _ _).trans ((cast_heads _ _ _ _ _).trans ((cut_keys _ _ _ _).trans
        ((cast_rows (xOf m c) _ _ _).trans ?_)))
      refine congrArg (xOf m c) ?_
      exact congrArg₂ ix2 (Fin.ext (Nat.add_assoc _ _ _).symm) rfl
    · refine Eq.trans ?_ (arr3 m c).symm
      funext y
      idx_vars y
      refine (cut_rows _ _ _ _ _).trans ((cast_heads _ _ _ _ _).trans ((cut_values _ _ _ _).trans
        ((cast_rows (xOf m c) _ _ _).trans ?_)))
      refine congrArg (xOf m c) ?_
      exact congrArg₂ ix2 (Fin.ext (Nat.add_assoc _ _ _).symm) rfl

end Cert.Kernel4Ideal.Tie
-- ==== Proof.Att1.lean ====
module

public import proofs.«01_k».proof.Defs
public import proofs.«01_k».proof.Proof.Gen.Kernel5Ideal.Skeleton
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.Kernel5Ideal.Tie

open Cert.Kernel5Ideal Cert.Kernel5Ideal.Gen Idealize.ShloMosaic Idealize.ShloMosaic.TcCoe Idealize.SL.Sem
open Idealize.ShloMosaic.Pipeline (Dat)

/-- The word of negative infinity, read. -/
def low : EReal := Ideal.ofBits FTy.f32 4286578688#32

/-- The score of a key: the product with the query scaled, and the bias; negative infinity before key `T`. -/
def score (T : ℕ) (dot bias : Fin 576 → EReal) (s : Fin 576) : EReal :=
  if T ≤ s.val then dot s * Ideal.ofBits FTy.f32 1040187392#32 + bias s else low

/-- The exponential of a score less the greatest one. -/
def weight (S : Fin 576 → EReal) (s : Fin 576) : EReal :=
  Ideal.exp (S s - Finset.fold max low S Finset.univ)

/-- The values, weighted and normalized by the reciprocal of the sum of the weights. -/
def mix (S V : Fin 576 → EReal) : EReal :=
  ∑ s, weight S s * Ideal.div 1 (∑ u, weight S u) * V s

/-- A product of which the query's upper half is zero. -/
theorem sum_low (k q : Fin 128 → EReal) :
    (∑ x : Fin 128, k x * Scalar.select (IntOp.cmpi .sge (BitVec.ofNat 32 x.val) 64#32) 0 (q x)) =
      ∑ d : Fin 64, k ⟨0 * 64 + d.val, by omega⟩ * q ⟨0 * 64 + d.val, by omega⟩ := by
  rw [Fin.sum_univ_add (a := 64) (b := 64)]
  have e1 : ∀ d : Fin 64, IntOp.cmpi .sge (BitVec.ofNat 32 (Fin.castAdd 64 d).val) 64#32 = 0#1 := by decide
  have e2 : ∀ d : Fin 64, IntOp.cmpi .sge (BitVec.ofNat 32 (Fin.natAdd 64 d).val) 64#32 = 1#1 := by decide
  refine (congrArg₂ (· + ·) (Finset.sum_congr rfl fun d _ => ?_) (Finset.sum_eq_zero fun d _ => ?_)).trans (add_zero _)
  · have e : (Fin.castAdd 64 d : Fin 128) = ⟨0 * 64 + d.val, by omega⟩ := Fin.ext (by show d.val = 0 * 64 + d.val; omega)
    rw [e1 d]
    exact congrArg₂ (· * ·) (congrArg k e) (congrArg q e)
  · rw [e2 d]
    exact mul_zero _

/-- A product of which the query's lower half is zero. -/
theorem sum_high (k q : Fin 128 → EReal) :
    (∑ x : Fin 128, k x * Scalar.select (IntOp.cmpi .sge (BitVec.ofNat 32 x.val) 64#32) (q x) 0) =
      ∑ d : Fin 64, k ⟨1 * 64 + d.val, by omega⟩ * q ⟨1 * 64 + d.val, by omega⟩ := by
  rw [Fin.sum_univ_add (a := 64) (b := 64)]
  have e1 : ∀ d : Fin 64, IntOp.cmpi .sge (BitVec.ofNat 32 (Fin.castAdd 64 d).val) 64#32 = 0#1 := by decide
  have e2 : ∀ d : Fin 64, IntOp.cmpi .sge (BitVec.ofNat 32 (Fin.natAdd 64 d).val) 64#32 = 1#1 := by decide
  refine (congrArg₂ (· + ·) (Finset.sum_eq_zero fun d _ => ?_) (Finset.sum_congr rfl fun d _ => ?_)).trans (zero_add _)
  · rw [e1 d]
    exact mul_zero _
  · have e : (Fin.natAdd 64 d : Fin 128) = ⟨1 * 64 + d.val, by omega⟩ := Fin.ext (by show 64 + d.val = 1 * 64 + d.val; omega)
    rw [e2 d]
    exact congrArg₂ (· * ·) (congrArg k e) (congrArg q e)

/-- A score chosen by the comparison of words. -/
theorem score_word (T : ℕ) (hT : T ≤ 512) (s : Fin 576) (a : EReal) :
    Scalar.select (IntOp.cmpi .sge (BitVec.ofNat 32 s.val) (BitVec.ofNat 32 T)) a low = if T ≤ s.val then a else low := by
  rw [WordCmp.cmpi_sge_ofNat (by have := s.isLt; omega) (by omega)]
  by_cases h : T ≤ s.val
  · rw [if_pos h]; simp only [h, decide_true]; rfl
  · rw [if_neg h]; simp only [h, decide_false]; rfl

/-- What the kernel subtracts and exponentiates, at a key and at a query of one of the pair's heads. -/
theorem pay_scores (T : ℕ) (hT : T ≤ 512) (q : FVec Ideal S64x128 .bf16) (k : FVec Ideal S576x128 .bf16) (b : FVec Ideal S1x576x128 .f32)
    (s : Fin 576) (g : Fin 2) (r : Fin 64) :
    k0_pay10 (F := Ideal) (BitVec.ofNat 32 T) q k b (ix2 s ⟨g.val * 64 + r.val, by omega⟩) =
      (fun S : Fin 576 → EReal => S s - Finset.fold max low S Finset.univ)
      (score T (fun s => ∑ d : Fin 64, k (ix2 s ⟨g.val * 64 + d.val, by omega⟩) * q (ix2 r ⟨g.val * 64 + d.val, by omega⟩))
        (fun s => b (ix3 0 s ⟨g.val * 64 + r.val, by omega⟩))) := by
  have key : ∀ u : Fin 576, score T (fun s => ∑ d : Fin 64, k (ix2 s ⟨g.val * 64 + d.val, by omega⟩) * q (ix2 r ⟨g.val * 64 + d.val, by omega⟩))
        (fun s => b (ix3 0 s ⟨g.val * 64 + r.val, by omega⟩)) u =
      Scalar.select (IntOp.cmpi .sge (BitVec.ofNat 32 u.val) (BitVec.ofNat 32 T))
        ((∑ x : Fin 128, k (ix2 u x) *
            if h : g.val * 64 + r.val < 64 then
              Scalar.select (IntOp.cmpi .sge (BitVec.ofNat 32 x.val) 64#32) 0 (q (ix2 ⟨g.val * 64 + r.val, h⟩ x))
            else
              Scalar.select (IntOp.cmpi .sge (BitVec.ofNat 32 x.val) 64#32) (q (ix2 ⟨g.val * 64 + r.val - 64, by omega⟩ x)) 0)
          * Ideal.ofBits FTy.f32 1040187392#32 + b (ix3 0 u ⟨g.val * 64 + r.val, by omega⟩)) low := by
    intro u
    rw [score_word T hT u]
    unfold score
    refine if_congr Iff.rfl (congrArg (fun z => z * _ + _) ?_) rfl
    by_cases h : g.val = 0
    · have hl : g.val * 64 + r.val < 64 := by omega
      obtain rfl : g = 0 := Fin.ext h
      simp only [dif_pos hl]
      refine ((sum_low (fun x => k (ix2 u x)) (fun x => q (ix2 ⟨(0 : Fin 2).val * 64 + r.val, hl⟩ x))).trans ?_).symm
      refine Finset.sum_congr rfl fun d _ => congrArg₂ (· * ·) rfl (congrArg (fun z => q (ix2 z _)) (Fin.ext ?_))
      show 0 * 64 + r.val = r.val
      omega
    · have hl : ¬ g.val * 64 + r.val < 64 := by omega
      obtain rfl : g = 1 := Fin.ext (by show g.val = 1; omega)
      simp only [dif_neg hl]
      refine ((sum_high (fun x => k (ix2 u x)) (fun x => q (ix2 ⟨(1 : Fin 2).val * 64 + r.val - 64, by show 1 * 64 + r.val - 64 < 64; omega⟩ x))).trans ?_).symm
      refine Finset.sum_congr rfl fun d _ => congrArg₂ (· * ·) rfl (congrArg (fun z => q (ix2 z _)) (Fin.ext ?_))
      show 1 * 64 + r.val - 64 = r.val
      omega
  rw [show (score T (fun s => ∑ d : Fin 64, k (ix2 s ⟨g.val * 64 + d.val, by omega⟩) * q (ix2 r ⟨g.val * 64 + d.val, by omega⟩))
        (fun s => b (ix3 0 s ⟨g.val * 64 + r.val, by omega⟩))) = _ from funext key]
  clear key
  pointwise [k0_pay10, k0_pay9, low]

/-- What the kernel stores for a head pair, at a query and a column of one of the two heads. -/
theorem pay_head (T : ℕ) (hT : T ≤ 512) (q : FVec Ideal S64x128 .bf16) (k v : FVec Ideal S576x128 .bf16) (b : FVec Ideal S1x576x128 .f32)
    (g : Fin 2) (r d : Fin 64) :
    k0_pay11 (F := Ideal) k0_pay9 v (k0_pay10 (BitVec.ofNat 32 T) q k b) (ix2 r ⟨g.val * 64 + d.val, by omega⟩) =
      mix (score T (fun s => ∑ e : Fin 64, k (ix2 s ⟨g.val * 64 + e.val, by omega⟩) * q (ix2 r ⟨g.val * 64 + e.val, by omega⟩))
        (fun s => b (ix3 0 s ⟨g.val * 64 + r.val, by omega⟩))) (fun s => v (ix2 s ⟨g.val * 64 + d.val, by omega⟩)) := by
  have hs := fun s => pay_scores T hT q k b s g r
  generalize k0_pay10 (F := Ideal) (BitVec.ofNat 32 T) q k b = e at hs ⊢
  unfold mix weight
  generalize score T _ _ = S at hs ⊢
  pointwise [k0_pay11, k0_pay9]
  by_cases h : g.val = 0
  · obtain rfl : g = 0 := Fin.ext h
    have e1 : ∀ d : Fin 64, IntOp.cmpi .sge (BitVec.ofNat 32 ((0 : Fin 2).val * 64 + d.val)) 64#32 = 0#1 := by decide
    have e2 : ∀ x : Fin 576, e (ix2 x ⟨r.val, by omega⟩) = S x - Finset.fold max low S Finset.univ := fun x =>
      (congrArg (fun z => e (ix2 x z)) (Fin.ext (by show r.val = 0 * 64 + r.val; omega))).trans (hs x)
    rw [e1 d]
    simp only [e2]
    rfl
  · obtain rfl : g = 1 := Fin.ext (by show g.val = 1; omega)
    have e1 : ∀ d : Fin 64, IntOp.cmpi .sge (BitVec.ofNat 32 ((1 : Fin 2).val * 64 + d.val)) 64#32 = 1#1 := by decide
    have e2 : ∀ x : Fin 576, e (ix2 x ⟨64 + r.val, by omega⟩) = S x - Finset.fold max low S Finset.univ := fun x =>
      (congrArg (fun z => e (ix2 x z)) (Fin.ext (by show 64 + r.val = 1 * 64 + r.val; omega))).trans (hs x)
    rw [e1 d]
    simp only [e2]
    rfl

/-- A block's row and column: the head's values mixed by the scores of the row's query with the 576 keys that its chunk reads. -/
def rowsAt (T : ℕ → ℕ) (Q : FVec Ideal S512x1024 .bf16) (K V : FVec Ideal S1024x1024 .bf16) (B : FVec Ideal S8x576x128 .f32)
    (R : Fin 512) (L : Fin 1024) : EReal :=
  mix (score (T (R.val / 64))
      (fun s => ∑ e : Fin 64, K (ix2 ⟨R.val / 64 * 64 + s.val, by omega⟩ ⟨L.val / 64 * 64 + e.val, by omega⟩) *
        Q (ix2 R ⟨L.val / 64 * 64 + e.val, by omega⟩))
      (fun s => B (ix3 ⟨L.val / 128, by omega⟩ s ⟨L.val / 64 % 2 * 64 + R.val % 64, by omega⟩)))
    (fun s => V (ix2 ⟨R.val / 64 * 64 + s.val, by omega⟩ L))

/-- A store of the kernel, for chunk `n` and head pair `j`, is a tile of the block's rows. -/
theorem core (T : ℕ → ℕ) (Q : FVec Ideal S512x1024 .bf16) (K V : FVec Ideal S1024x1024 .bf16) (B : FVec Ideal S8x576x128 .f32)
    (n : ℕ) (hn : n < 8) (j : Fin 8) (hT : T n ≤ 512)
    (q : FVec Ideal S64x128 .bf16) (k v : FVec Ideal S576x128 .bf16) (b : FVec Ideal S1x576x128 .f32)
    (eq : ∀ (r : Fin 64) (e : Fin 128), q (ix2 r e) = Q (ix2 ⟨64 * n + r.val, by omega⟩ ⟨128 * j.val + e.val, by omega⟩))
    (ek : ∀ (s : Fin 576) (e : Fin 128), k (ix2 s e) = K (ix2 ⟨64 * n + s.val, by omega⟩ ⟨128 * j.val + e.val, by omega⟩))
    (ev : ∀ (s : Fin 576) (e : Fin 128), v (ix2 s e) = V (ix2 ⟨64 * n + s.val, by omega⟩ ⟨128 * j.val + e.val, by omega⟩))
    (eb : ∀ (s : Fin 576) (e : Fin 128), b (ix3 0 s e) = B (ix3 j s e))
    (x0 : Fin 64) (x1 : Fin 128) :
    k0_pay11 (F := Ideal) k0_pay9 v (k0_pay10 (BitVec.ofNat 32 (T n)) q k b) (ix2 x0 x1) =
      rowsAt T Q K V B ⟨64 * n + x0.val, by omega⟩ ⟨128 * j.val + x1.val, by omega⟩ := by
  have e0 : x1 = ⟨(⟨x1.val / 64, by omega⟩ : Fin 2).val * 64 + (⟨x1.val % 64, by omega⟩ : Fin 64).val, by show x1.val / 64 * 64 + x1.val % 64 < 128; omega⟩ :=
    Fin.ext (by show x1.val = x1.val / 64 * 64 + x1.val % 64; omega)
  rw [e0, pay_head (T n) hT q k v b, ← e0]
  unfold rowsAt
  refine congrArg₂ mix (congr (congr (congrArg score ?_) (funext fun s => ?_)) (funext fun s => ?_)) (funext fun s => ?_)
  · exact congrArg T (by show n = (64 * n + x0.val) / 64; omega)
  · refine Finset.sum_congr rfl fun e _ => congrArg₂ (· * ·) ?_ ?_
    · refine (ek s _).trans (congrArg K (congrArg₂ ix2 (Fin.ext ?_) (Fin.ext ?_)))
      · show 64 * n + s.val = (64 * n + x0.val) / 64 * 64 + s.val
        omega
      · show 128 * j.val + (x1.val / 64 * 64 + e.val) = (128 * j.val + x1.val) / 64 * 64 + e.val
        omega
    · refine (eq x0 _).trans (congrArg Q (congrArg₂ ix2 rfl (Fin.ext ?_)))
      show 128 * j.val + (x1.val / 64 * 64 + e.val) = (128 * j.val + x1.val) / 64 * 64 + e.val
      omega
  · refine (eb s _).trans (congrArg B (congrArg₂ (fun a z => ix3 a s z) (Fin.ext ?_) (Fin.ext ?_)))
    · show j.val = (128 * j.val + x1.val) / 128
      omega
    · show x1.val / 64 * 64 + x0.val = (128 * j.val + x1.val) / 64 % 2 * 64 + (64 * n + x0.val) % 64
      omega
  · refine (ev s x1).trans (congrArg V (congrArg₂ ix2 (Fin.ext ?_) rfl))
    show 64 * n + s.val = (64 * n + x0.val) / 64 * 64 + s.val
    omega

/-- The block's rows as an array. -/
def rowsA (T : ℕ → ℕ) (Q : FVec Ideal S512x1024 .bf16) (K V : FVec Ideal S1024x1024 .bf16) (B : FVec Ideal S8x576x128 .f32) :
    FVec Ideal S512x1024 .bf16 := fun y => rowsAt T Q K V B (y 0) (y 1)

/-- The payloads of the eight head pairs are one function. -/
theorem pays_scores : @k0_pay13 Ideal _ = @k0_pay10 Ideal _ ∧ @k0_pay16 Ideal _ = @k0_pay10 Ideal _ ∧ @k0_pay19 Ideal _ = @k0_pay10 Ideal _
    ∧ @k0_pay22 Ideal _ = @k0_pay10 Ideal _ ∧ @k0_pay25 Ideal _ = @k0_pay10 Ideal _ ∧ @k0_pay28 Ideal _ = @k0_pay10 Ideal _ :=
  ⟨rfl, rfl, rfl, rfl, rfl, rfl⟩

/-- The stored payloads of the eight head pairs are one function. -/
theorem pays_out : @k0_pay8 Ideal _ = @k0_pay11 Ideal _ ∧ @k0_pay14 Ideal _ = @k0_pay11 Ideal _ ∧ @k0_pay17 Ideal _ = @k0_pay11 Ideal _
    ∧ @k0_pay20 Ideal _ = @k0_pay11 Ideal _ ∧ @k0_pay23 Ideal _ = @k0_pay11 Ideal _ ∧ @k0_pay26 Ideal _ = @k0_pay11 Ideal _
    ∧ @k0_pay29 Ideal _ = @k0_pay11 Ideal _ :=
  ⟨rfl, rfl, rfl, rfl, rfl, rfl, rfl⟩

/-- The masks of the lanes are one. -/
theorem masks : k0_pay6 = k0_pay9 ∧ k0_pay12 = k0_pay9 ∧ k0_pay15 = k0_pay9 ∧ k0_pay18 = k0_pay9 ∧ k0_pay21 = k0_pay9 ∧ k0_pay24 = k0_pay9
    ∧ k0_pay27 = k0_pay9 :=
  ⟨rfl, rfl, rfl, rfl, rfl, rfl, rfl⟩

/-- The first pair's payload, its word stated inside. -/
theorem pay_first (w : BitVec 32) (k : Fin k0_t1_loop.trips) (q : FVec Ideal S64x128 .bf16) (kk : FVec Ideal S576x128 .bf16) (b : FVec Ideal S1x576x128 .f32) :
    k0_pay7 (F := Ideal) w 0#32 1#32 k q kk b =
      k0_pay10 (Scalar.select (Scalar.cmpi .sgt w 0#32) 0#32 (Scalar.subi 512#32 (Scalar.muli (Scf.iv 0#32 1#32 k) 64#32))) q kk b := rfl

end Cert.Kernel5Ideal.Tie
-- ==== Proof.Att2.lean ====
module

public import proofs.«01_k».proof.Defs
public import proofs.«01_k».proof.Proof.Gen.Kernel5Ideal.Value
public import proofs.«01_k».proof.Proof.Att1
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel5Ideal.Tie

open Cert.Kernel5Ideal Cert.Kernel5Ideal.Gen Idealize.ShloMosaic Idealize.ShloMosaic.TcCoe Idealize.SL.Sem
open Idealize.ShloMosaic.Pipeline (Dat)

/-- Where a trip's loads and stores lie. -/
theorem offs : ∀ k : Fin k0_t1_loop.trips, k0_off1 k = ![64 * k.val, 0] ∧ k0_off2 k = ![64 * k.val, 0] ∧ k0_off3 k = ![64 * k.val, 128]
    ∧ k0_off4 k = ![64 * k.val, 128] ∧ k0_off5 k = ![64 * k.val, 256] ∧ k0_off6 k = ![64 * k.val, 256] ∧ k0_off7 k = ![64 * k.val, 384]
    ∧ k0_off8 k = ![64 * k.val, 384] ∧ k0_off9 k = ![64 * k.val, 512] ∧ k0_off10 k = ![64 * k.val, 512] ∧ k0_off11 k = ![64 * k.val, 640]
    ∧ k0_off12 k = ![64 * k.val, 640] ∧ k0_off13 k = ![64 * k.val, 768] ∧ k0_off14 k = ![64 * k.val, 768] ∧ k0_off15 k = ![64 * k.val, 896]
    ∧ k0_off16 k = ![64 * k.val, 896] := by decide +kernel

/-- An element of a rectangle of two axes. -/
theorem emb_two {n0 n1 s0 s1 : ℕ} (off : Fin 2 → ℕ) (a b : ℕ) (e : off = ![a, b])
    (inb : ∀ i, off i + (![s0, s1] : Fin 2 → ℕ) i ≤ (⟨2, ![n0, n1]⟩ : Shape).size i) (x0 : Fin s0) (x1 : Fin s1)
    (h0 : a + x0.val < n0) (h1 : b + x1.val < n1) :
    (Rect.unit (s := ⟨2, ![n0, n1]⟩) off ![s0, s1] inb).idx (ix2 x0 x1) = ix2 ⟨a + x0.val, h0⟩ ⟨b + x1.val, h1⟩ := by
  subst e
  funext i
  fin_cases i
  · exact Fin.ext (by show a + 1 * x0.val = a + x0.val; omega)
  · exact Fin.ext (by show b + 1 * x1.val = b + x1.val; omega)

/-- An element of one slab of the bias. -/
theorem emb_slab (j : Fin 8) (off : Fin 3 → ℕ) (e : off = ![j.val, 0, 0])
    (inb : ∀ i, off i + S1x576x128.size i ≤ S8x576x128.size i) (s : Fin 576) (l : Fin 128) :
    (Rect.unit (s := S8x576x128) off S1x576x128.size inb).idx (ix3 0 s l) = ix3 j s l := by
  subst e
  funext i
  fin_cases i
  · exact Fin.ext (by show j.val + 1 * 0 = j.val; omega)
  · exact Fin.ext (by show 0 + 1 * s.val = s.val; omega)
  · exact Fin.ext (by show 0 + 1 * l.val = l.val; omega)

/-- An element of the block lies in the store of its chunk and head pair. -/
theorem in_store (k : ℕ) (b : ℕ) (off : Fin 2 → ℕ) (h : off = ![64 * k, b])
    (inb : ∀ i, off i + S64x128.size i ≤ S512x1024.size i) (y : S512x1024.Idx) (h0 : (y 0).val / 64 = k) (h1 : (y 1).val / 128 * 128 = b) :
    y ∈ (Rect.unit (s := S512x1024) off S64x128.size inb).set := by
  subst h
  refine Rect.mem_set_unit.mpr fun a => ?_
  fin_cases a
  · show 64 * k ≤ (y 0).val ∧ (y 0).val < 64 * k + 64
    omega
  · show b ≤ (y 1).val ∧ (y 1).val < b + 128
    omega

variable (𝒱 : Variants) (c : Dev nD) (bd : Option 𝒱.V) (i : grid0.Coords) (arg2 : Memref sig .tc .smem S16 .f32) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S512x1024 .bf16) (harg8 : arg8.IsWhole)
  (arg9 : Memref sig .tc .vmem S512x128 .bf16) (harg9 : arg9.IsWhole) (arg10 : Memref sig .tc .vmem S512x128 .bf16) (harg10 : arg10.IsWhole)
  (arg11 : Memref sig .tc .vmem S512x128 .bf16) (harg11 : arg11.IsWhole) (arg12 : Memref sig .tc .vmem S512x128 .bf16) (harg12 :
  arg12.IsWhole) (arg13 : Memref sig .tc .vmem S8x576x128 .f32) (harg13 : arg13.IsWhole) (arg14 : Memref sig .tc .vmem S512x1024 .bf16)
  (harg14 : arg14.IsWhole) (arg15 : Memref sig .tc .vmem S512x1024 .bf16) (harg15 : arg15.IsWhole) (arg16 : Memref sig .tc .vmem S1024x1024
  .bf16) (harg16 : arg16.IsWhole) (arg17 : Memref sig .tc .vmem S1024x1024 .bf16) (harg17 : arg17.IsWhole) (arg18 : Memref sig .tc .vmem
  S1024x128 .bf16) (harg18 : arg18.IsWhole) (arg19 : Memref sig .tc .vmem S1024x128 .bf16) (harg19 : arg19.IsWhole) (arg20 : Memref sig .tc
  .vmem S192x1024 .f32) (harg20 : arg20.IsWhole) (arg21 : Memref sig .tc .vmem S1x1024 .f32) (harg21 : arg21.IsWhole) (arg1 : BitVec 32)
  (X_arg3 : BufTy.Contents (Elt Ideal) arg3.view.ty) (X_arg8 : BufTy.Contents (Elt Ideal) arg8.view.ty) (X_arg13 : BufTy.Contents (Elt
  Ideal) arg13.view.ty) (X_arg16 : BufTy.Contents (Elt Ideal) arg16.view.ty) (X_arg17 : BufTy.Contents (Elt Ideal) arg17.view.ty) (X_arg18 :
  BufTy.Contents (Elt Ideal) arg18.view.ty) (X_arg19 : BufTy.Contents (Elt Ideal) arg19.view.ty) (X_arg20 : BufTy.Contents (Elt Ideal)
  arg20.view.ty) (X_arg21 : BufTy.Contents (Elt Ideal) arg21.view.ty)

/-- One store of a trip is a tile of the block's rows. -/
theorem piece (T : ℕ → ℕ) (n : ℕ) (hn : n < 8) (j : Fin 8) (hT : T n ≤ 512) (w : BitVec 32) (hw : w = BitVec.ofNat 32 (T n))
    (b : ℕ) (hb : b = 128 * j.val) (offq offk : Fin 2 → ℕ) (offb : Fin 3 → ℕ)
    (hq : offq = ![64 * n, b]) (hk : offk = ![64 * n, b]) (ho : offb = ![j.val, 0, 0])
    (inbq : ∀ i, offq i + S64x128.size i ≤ S512x1024.size i) (inbk : ∀ i, offk i + S576x128.size i ≤ S1024x1024.size i)
    (inbb : ∀ i, offb i + S1x576x128.size i ≤ S8x576x128.size i) (x : S64x128.Idx) :
    k0_pay11 (F := Ideal) k0_pay9 (arg17.view.readAt (Elt Ideal) (Rect.unit (s := S1024x1024) offk S576x128.size inbk).toLoadRect X_arg17)
      (k0_pay10 w (arg3.view.readAt (Elt Ideal) (Rect.unit (s := S512x1024) offq S64x128.size inbq).toLoadRect X_arg3)
        (arg16.view.readAt (Elt Ideal) (Rect.unit (s := S1024x1024) offk S576x128.size inbk).toLoadRect X_arg16)
        (arg13.view.readAt (Elt Ideal) (Rect.unit (s := S8x576x128) offb S1x576x128.size inbb).toLoadRect X_arg13)) x =
      rowsA T (arg3.view.read (Elt Ideal) X_arg3) (arg16.view.read (Elt Ideal) X_arg16) (arg17.view.read (Elt Ideal) X_arg17)
        (arg13.view.read (Elt Ideal) X_arg13) ((Rect.unit (s := S512x1024) offq S64x128.size inbq).emb x) := by
  subst hw hb
  obtain ⟨x0, x1, rfl⟩ : ∃ (x0 : Fin 64) (x1 : Fin 128), x = ix2 x0 x1 := ⟨x 0, x 1, eq_ix2 x⟩
  refine (core T (arg3.view.read (Elt Ideal) X_arg3) (arg16.view.read (Elt Ideal) X_arg16)
    (arg17.view.read (Elt Ideal) X_arg17) (arg13.view.read (Elt Ideal) X_arg13) n hn j hT _ _ _ _ (fun r e => ?_) (fun s e => ?_) (fun s e => ?_) (fun s e => ?_) x0 x1).trans ?_
  · exact congrArg (arg3.view.read (Elt Ideal) X_arg3) (emb_two offq _ _ hq inbq r e _ _)
  · exact congrArg (arg16.view.read (Elt Ideal) X_arg16) (emb_two offk _ _ hk inbk s e _ _)
  · exact congrArg (arg17.view.read (Elt Ideal) X_arg17) (emb_two offk _ _ hk inbk s e _ _)
  · exact congrArg (arg13.view.read (Elt Ideal) X_arg13) (emb_slab j offb ho inbb s e)
  · exact (congrArg (rowsA T (arg3.view.read (Elt Ideal) X_arg3) (arg16.view.read (Elt Ideal) X_arg16) (arg17.view.read (Elt Ideal) X_arg17)
        (arg13.view.read (Elt Ideal) X_arg13)) (emb_two offq _ _ hq inbq x0 x1 (by omega) (by omega))).symm

set_option maxHeartbeats 2000000 in
/-- A trip's stores into the first result are tiles of the block's rows. -/
theorem trip_pieces (T : ℕ → ℕ) (hT : ∀ n, T n ≤ 512) (k : Fin k0_t1_loop.trips)
    (hw : Scalar.select (Scalar.cmpi .sgt arg1 0#32) 0#32 (Scalar.subi 512#32 (Scalar.muli (Scf.iv 0#32 1#32 k) 64#32)) =
      BitVec.ofNat 32 (T k.val)) :
    View.PiecesOf (rowsA T (arg3.view.read (Elt Ideal) X_arg3) (arg16.view.read (Elt Ideal) X_arg16) (arg17.view.read (Elt Ideal) X_arg17)
        (arg13.view.read (Elt Ideal) X_arg13)) (tripL_k0_t1 (F := Ideal)
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21 k).1 := by
  have lt : k.val < 8 := Nat.lt_of_lt_of_le k.isLt k0_t1_abs.2.1
  obtain ⟨o1, o2, o3, o4, o5, o6, o7, o8, o9, o10, o11, o12, o13, o14, o15, o16⟩ := offs k
  obtain ⟨s1, s2, s3, s4, s5, s6⟩ := pays_scores
  obtain ⟨u0, u1, u2, u3, u4, u5, u6⟩ := pays_out
  obtain ⟨m0, m1, m2, m3, m4, m5, m6⟩ := masks
  unfold tripL_k0_t1 trip_k0_t1
  dsimp only
  rw [u0, u1, u2, u3, u4, u5, u6, m0, m1, m2, m3, m4, m5, m6]
  refine ⟨fun x => ?_, fun x => ?_, fun x => ?_, fun x => ?_, fun x => ?_, fun x => ?_, fun x => ?_, fun x => ?_, trivial⟩
  · exact piece _ _ _ _ _ _ _ _ T k.val lt 7 (hT _) _ hw _ rfl _ _ _ o15 o16 rfl _ _ _ x
  · exact piece _ _ _ _ _ _ _ _ T k.val lt 6 (hT _) _ hw _ rfl _ _ _ o13 o14 rfl _ _ _ x
  · exact piece _ _ _ _ _ _ _ _ T k.val lt 5 (hT _) _ hw _ rfl _ _ _ o11 o12 rfl _ _ _ x
  · exact piece _ _ _ _ _ _ _ _ T k.val lt 4 (hT _) _ hw _ rfl _ _ _ o9 o10 rfl _ _ _ x
  · exact piece _ _ _ _ _ _ _ _ T k.val lt 3 (hT _) _ hw _ rfl _ _ _ o7 o8 rfl _ _ _ x
  · exact piece _ _ _ _ _ _ _ _ T k.val lt 2 (hT _) _ hw _ rfl _ _ _ o5 o6 rfl _ _ _ x
  · exact piece _ _ _ _ _ _ _ _ T k.val lt 1 (hT _) _ hw _ rfl _ _ _ o3 o4 rfl _ _ _ x
  · exact piece _ _ _ _ _ _ _ _ T k.val lt 0 (hT _) _ hw _ rfl _ _ _ o1 o2 rfl _ _ _ x

/-- The pieces of the trips before `n` are tiles of the block's rows. -/
theorem loop_pieces (T : ℕ → ℕ) (hT : ∀ n, T n ≤ 512)
    (hw : ∀ k : Fin k0_t1_loop.trips, Scalar.select (Scalar.cmpi .sgt arg1 0#32) 0#32
      (Scalar.subi 512#32 (Scalar.muli (Scf.iv 0#32 1#32 k) 64#32)) = BitVec.ofNat 32 (T k.val)) :
    ∀ n, n ≤ k0_t1_loop.trips → ∀ p ∈ (pb_k0_t1 (F := Ideal)
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21 n).1, ∀ x : p.1.shape.Idx, p.2 x = rowsA T (arg3.view.read (Elt Ideal) X_arg3) (arg16.view.read (Elt Ideal) X_arg16)
        (arg17.view.read (Elt Ideal) X_arg17) (arg13.view.read (Elt Ideal) X_arg13) (p.1.emb x)
  | 0, _, p, hp => absurd hp List.not_mem_nil
  | n + 1, h, p, hp => by
    rw [pb_k0_t1_succ (k := ⟨n, h⟩)] at hp
    rcases List.mem_append.mp hp with h' | h'
    · exact View.PiecesOf.mem (trip_pieces (T := T) (hT := hT) (k := ⟨n, h⟩) (hw := hw _) ..) p h'
    · exact loop_pieces T hT hw n (Nat.le_of_succ_le h) p h'

/-- The stores of a trip cover its chunk's rows. -/
theorem trip_covers (k : Fin k0_t1_loop.trips) (y : S512x1024.Idx) (h0 : (y 0).val / 64 = k.val) :
    ∃ p ∈ (tripL_k0_t1 (F := Ideal)
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21 k).1, y ∈ p.1.set := by
  obtain ⟨o1, o2, o3, o4, o5, o6, o7, o8, o9, o10, o11, o12, o13, o14, o15, o16⟩ := offs k
  have h2 : (y 1).val < 1024 := (y 1).isLt
  unfold tripL_k0_t1 trip_k0_t1
  dsimp only
  obtain h | h | h | h | h | h | h | h : (y 1).val / 128 * 128 = 0 ∨ (y 1).val / 128 * 128 = 128 ∨ (y 1).val / 128 * 128 = 256
    ∨ (y 1).val / 128 * 128 = 384 ∨ (y 1).val / 128 * 128 = 512 ∨ (y 1).val / 128 * 128 = 640 ∨ (y 1).val / 128 * 128 = 768
    ∨ (y 1).val / 128 * 128 = 896 := by omega
  · exact ⟨_, .tail _ (.tail _ (.tail _ (.tail _ (.tail _ (.tail _ (.tail _ (.head _))))))), in_store _ _ _ o1 (k0_off1_inb k) y h0 h⟩
  · exact ⟨_, .tail _ (.tail _ (.tail _ (.tail _ (.tail _ (.tail _ (.head _)))))), in_store _ _ _ o3 (k0_off3_inb k) y h0 h⟩
  · exact ⟨_, .tail _ (.tail _ (.tail _ (.tail _ (.tail _ (.head _))))), in_store _ _ _ o5 (k0_off5_inb k) y h0 h⟩
  · exact ⟨_, .tail _ (.tail _ (.tail _ (.tail _ (.head _)))), in_store _ _ _ o7 (k0_off7_inb k) y h0 h⟩
  · exact ⟨_, .tail _ (.tail _ (.tail _ (.head _))), in_store _ _ _ o9 (k0_off9_inb k) y h0 h⟩
  · exact ⟨_, .tail _ (.tail _ (.head _)), in_store _ _ _ o11 (k0_off11_inb k) y h0 h⟩
  · exact ⟨_, .tail _ (.head _), in_store _ _ _ o13 (k0_off13_inb k) y h0 h⟩
  · exact ⟨_, .head _, in_store _ _ _ o15 (k0_off15_inb k) y h0 h⟩

/-- The stores of the trips before `n` cover the rows of the chunks before `n`. -/
theorem loop_covers (y : S512x1024.Idx) :
    ∀ n, n ≤ k0_t1_loop.trips → (y 0).val / 64 < n → ∃ p ∈ (pb_k0_t1 (F := Ideal)
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21 n).1, y ∈ p.1.set
  | 0, _, h => absurd h (Nat.not_lt_zero _)
  | n + 1, h, h0 => by
    rw [pb_k0_t1_succ (k := ⟨n, h⟩)]
    by_cases e : (y 0).val / 64 = n
    · obtain ⟨p, hp, hy⟩ := trip_covers (k := ⟨n, h⟩) (y := y) (h0 := e) ..
      exact ⟨p, List.mem_append.mpr (.inl hp), hy⟩
    · obtain ⟨p, hp, hy⟩ := loop_covers y n (Nat.le_of_succ_le h) (by omega)
      exact ⟨p, List.mem_append.mpr (.inr hp), hy⟩

set_option maxHeartbeats 2000000 in
/-- What the loop leaves in the block of the first result. -/
theorem loop_value (T : ℕ → ℕ) (hT : ∀ n, T n ≤ 512)
    (hw : ∀ k : Fin k0_t1_loop.trips, Scalar.select (Scalar.cmpi .sgt arg1 0#32) 0#32
      (Scalar.subi 512#32 (Scalar.muli (Scf.iv 0#32 1#32 k) 64#32)) = BitVec.ofNat 32 (T k.val)) (n : ℕ) (hn : n = k0_t1_loop.trips) (y : S512x1024.Idx) :
    View.canon (pb_k0_t1 (F := Ideal)
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21 n).1 y =
      rowsA T (arg3.view.read (Elt Ideal) X_arg3) (arg16.view.read (Elt Ideal) X_arg16)
        (arg17.view.read (Elt Ideal) X_arg17) (arg13.view.read (Elt Ideal) X_arg13) y := by
  subst hn
  have e : k0_t1_loop.trips = 8 := by decide +kernel
  exact View.canon_apply_of_pieces _ _ (loop_pieces
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21
    T hT hw _ le_rfl) y
    (loop_covers
    𝒱 c bd i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20 harg20 arg21
    harg21 arg1 X_arg3 X_arg8 X_arg13 X_arg16 X_arg17 X_arg18 X_arg19 X_arg20 X_arg21
    y _ le_rfl (by rw [e]; have h2 : (y 0).val < 512 := (y 0).isLt; omega))

end Cert.Kernel5Ideal.Tie
-- ==== Proof.Bias.lean ====
module

public import proofs.«01_k».proof.Defs
public import proofs.«01_k».proof.Proof.Gen.Kernel5Ideal.Skeleton
public import proofs.«01_k».proof.Proof.Gen.Kernel5Ideal.Launch
public import Idealize.ShloMosaic.Lib.Pipeline.ValueKit
public import Idealize.ShloMosaic.Lib.Pointwise
public import Idealize.ShloMosaic.Lib.ReduceAll
public import Idealize.ShloMosaic.Lib.Claim

@[expose] public section

set_option maxRecDepth 16384

noncomputable section

namespace Cert.Kernel5Ideal.Tie

open Cert.Kernel5Ideal Cert.Kernel5Ideal.Gen Idealize.ShloMosaic Idealize.ShloMosaic.TcCoe Idealize.SL.Sem

/-- An entry of the table taken along its columns. -/
theorem taken_at (x : FVec Ideal S16x257 .f32) (w : IVec S639x1 32) (h : Fin 16) (l : Fin 639) :
    Host.gather gather_S16x257_S639x1_S16x639_0_1_n_n_1_1_161 x w (ix2 h l) =
      x (ix2 h ⟨min (w (ix2 l 0)).toInt.toNat 256, by omega⟩) := by
  unfold Host.gather
  refine congrArg x (funext fun a => Fin.ext ?_)
  show GatherDims.start _ _ w a + GatherDims.batchCoord _ _ a + GatherDims.offCoord _ _ a = _
  rw [GatherDims.batchCoord_eq_zero _ _ _ List.not_mem_nil, add_zero]
  fin_cases a
  · unfold GatherDims.start
    rw [dif_neg (by decide)]
    exact zero_add _
  · rw [GatherDims.offCoord_eq_zero _ _ _ (by decide)]
    unfold GatherDims.start
    rw [dif_pos (by decide)]
    refine congrArg (fun i => min (w i).toInt.toNat 256) (funext fun b => Fin.ext ?_)
    fin_cases b <;> rfl

/-- Sixteen lines one under another. -/
def stack16 (f : Fin 16 → Vec Ideal S16x1x576 .f32) : Vec Ideal S16x16x576 .f32 :=
  concatenate S16x16x576 1 [⟨S16x1x576, f 0⟩, ⟨S16x1x576, f 1⟩, ⟨S16x1x576, f 2⟩, ⟨S16x1x576, f 3⟩, ⟨S16x1x576, f 4⟩, ⟨S16x1x576, f 5⟩,
    ⟨S16x1x576, f 6⟩, ⟨S16x1x576, f 7⟩, ⟨S16x1x576, f 8⟩, ⟨S16x1x576, f 9⟩, ⟨S16x1x576, f 10⟩, ⟨S16x1x576, f 11⟩, ⟨S16x1x576, f 12⟩,
    ⟨S16x1x576, f 13⟩, ⟨S16x1x576, f 14⟩, ⟨S16x1x576, f 15⟩]
    concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1

/-- Four stacks one under another. -/
def stack64 (f : Fin 4 → Fin 16 → Vec Ideal S16x1x576 .f32) : Vec Ideal S16x64x576 .f32 :=
  concatenate S16x64x576 1 [⟨S16x16x576, stack16 (f 0)⟩, ⟨S16x16x576, stack16 (f 1)⟩, ⟨S16x16x576, stack16 (f 2)⟩, ⟨S16x16x576, stack16 (f 3)⟩]
    concatenates_S16x16x576_S16x16x576_S16x16x576_S16x16x576_S16x64x576_d1

/-- The lines a valuation holds. -/
def lines (W : Valuation τ sig (Elt Ideal)) : Fin 4 → Fin 16 → Vec Ideal S16x1x576 .f32 :=
  ![![(W (Proc.devRef .tc main_v71) : Vec Ideal S16x1x576 .f32), (W (Proc.devRef .tc main_v72) : Vec Ideal S16x1x576 .f32), (W (Proc.devRef .tc main_v73) : Vec Ideal S16x1x576 .f32), (W (Proc.devRef .tc main_v74) : Vec Ideal S16x1x576 .f32), (W (Proc.devRef .tc main_v75) : Vec Ideal S16x1x576 .f32), (W (Proc.devRef .tc main_v76) : Vec Ideal S16x1x576 .f32), (W (Proc.devRef .tc main_v77) : Vec Ideal S16x1x576 .f32), (W (Proc.devRef .tc main_v78) : Vec Ideal S16x1x576 .f32), (W (Proc.devRef .tc main_v79) : Vec Ideal S16x1x576 .f32), (W (Proc.devRef .tc main_v80) : Vec Ideal S16x1x576 .f32), (W (Proc.devRef .tc main_v81) : Vec Ideal S16x1x576 .f32), (W (Proc.devRef .tc main_v82) : Vec Ideal S16x1x576 .f32), (W (Proc.devRef .tc main_v83) : Vec Ideal S16x1x576 .f32), (W (Proc.devRef .tc main_v84) : Vec Ideal S16x1x576 .f32), (W (Proc.devRef .tc main_v85) : Vec Ideal S16x1x576 .f32), (W (Proc.devRef .tc main_v86) : Vec Ideal S16x1x576 .f32)],
    ![(W (Proc.devRef .tc main_v87) : Vec Ideal S16x1x576 .f32), (W (Proc.devRef .tc main_v88) : Vec Ideal S16x1x576 .f32), (W (Proc.devRef .tc main_v89) : Vec Ideal S16x1x576 .f32), (W (Proc.devRef .tc main_v90) : Vec Ideal S16x1x576 .f32), (W (Proc.devRef .tc main_v91) : Vec Ideal S16x1x576 .f32), (W (Proc.devRef .tc main_v92) : Vec Ideal S16x1x576 .f32), (W (Proc.devRef .tc main_v93) : Vec Ideal S16x1x576 .f32), (W (Proc.devRef .tc main_v94) : Vec Ideal S16x1x576 .f32), (W (Proc.devRef .tc main_v95) : Vec Ideal S16x1x576 .f32), (W (Proc.devRef .tc main_v96) : Vec Ideal S16x1x576 .f32), (W (Proc.devRef .tc main_v97) : Vec Ideal S16x1x576 .f32), (W (Proc.devRef .tc main_v98) : Vec Ideal S16x1x576 .f32), (W (Proc.devRef .tc main_v99) : Vec Ideal S16x1x576 .f32), (W (Proc.devRef .tc main_v100) : Vec Ideal S16x1x576 .f32), (W (Proc.devRef .tc main_v101) : Vec Ideal S16x1x576 .f32), (W (Proc.devRef .tc main_v102) : Vec Ideal S16x1x576 .f32)],
    ![(W (Proc.devRef .tc main_v103) : Vec Ideal S16x1x576 .f32), (W (Proc.devRef .tc main_v104) : Vec Ideal S16x1x576 .f32), (W (Proc.devRef .tc main_v105) : Vec Ideal S16x1x576 .f32), (W (Proc.devRef .tc main_v106) : Vec Ideal S16x1x576 .f32), (W (Proc.devRef .tc main_v107) : Vec Ideal S16x1x576 .f32), (W (Proc.devRef .tc main_v108) : Vec Ideal S16x1x576 .f32), (W (Proc.devRef .tc main_v109) : Vec Ideal S16x1x576 .f32), (W (Proc.devRef .tc main_v110) : Vec Ideal S16x1x576 .f32), (W (Proc.devRef .tc main_v111) : Vec Ideal S16x1x576 .f32), (W (Proc.devRef .tc main_v112) : Vec Ideal S16x1x576 .f32), (W (Proc.devRef .tc main_v113) : Vec Ideal S16x1x576 .f32), (W (Proc.devRef .tc main_v114) : Vec Ideal S16x1x576 .f32), (W (Proc.devRef .tc main_v115) : Vec Ideal S16x1x576 .f32), (W (Proc.devRef .tc main_v116) : Vec Ideal S16x1x576 .f32), (W (Proc.devRef .tc main_v117) : Vec Ideal S16x1x576 .f32), (W (Proc.devRef .tc main_v118) : Vec Ideal S16x1x576 .f32)],
    ![(W (Proc.devRef .tc main_v119) : Vec Ideal S16x1x576 .f32), (W (Proc.devRef .tc main_v120) : Vec Ideal S16x1x576 .f32), (W (Proc.devRef .tc main_v121) : Vec Ideal S16x1x576 .f32), (W (Proc.devRef .tc main_v122) : Vec Ideal S16x1x576 .f32), (W (Proc.devRef .tc main_v123) : Vec Ideal S16x1x576 .f32), (W (Proc.devRef .tc main_v124) : Vec Ideal S16x1x576 .f32), (W (Proc.devRef .tc main_v125) : Vec Ideal S16x1x576 .f32), (W (Proc.devRef .tc main_v126) : Vec Ideal S16x1x576 .f32), (W (Proc.devRef .tc main_v127) : Vec Ideal S16x1x576 .f32), (W (Proc.devRef .tc main_v128) : Vec Ideal S16x1x576 .f32), (W (Proc.devRef .tc main_v129) : Vec Ideal S16x1x576 .f32), (W (Proc.devRef .tc main_v130) : Vec Ideal S16x1x576 .f32), (W (Proc.devRef .tc main_v131) : Vec Ideal S16x1x576 .f32), (W (Proc.devRef .tc main_v132) : Vec Ideal S16x1x576 .f32), (W (Proc.devRef .tc main_v133) : Vec Ideal S16x1x576 .f32), (W (Proc.devRef .tc main_v134) : Vec Ideal S16x1x576 .f32)]]

theorem stack16_at (f : Fin 16 → Vec Ideal S16x1x576 .f32) (h : Fin 16) (q : Fin 16) (s : Fin 576) : stack16 f (ix3 h q s) = f q (ix3 h 0 s) := by
  refine concatenate_ofFn_unit_apply (t := S16x16x576) (s₁ := S16x1x576) 1 f _ rfl rfl (ix3 h q s) q rfl (ix3 h 0 s) fun b hb => ?_
  fin_cases b
  · rfl
  · exact absurd rfl hb
  · rfl

theorem stack64_at (f : Fin 4 → Fin 16 → Vec Ideal S16x1x576 .f32) (h : Fin 16) (q : Fin 64) (s : Fin 576) :
    stack64 f (ix3 h q s) = f ⟨q.val / 16, by omega⟩ ⟨q.val % 16, by omega⟩ (ix3 h 0 s) := by
  rw [← stack16_at (f ⟨q.val / 16, by omega⟩)]
  refine concatenate_ofFn_apply (t := S16x64x576) (s₁ := S16x16x576) 1 (fun a => stack16 (f a)) _ rfl 16 rfl (ix3 h q s) ⟨q.val / 16, by omega⟩ rfl
    (ix3 h ⟨q.val % 16, by omega⟩ s) rfl fun b hb => ?_
  fin_cases b
  · rfl
  · exact absurd rfl hb
  · rfl

/-- The stack of the lines, turned. -/
theorem lines_turned (W : Valuation τ sig (Elt Ideal)) :
    (StableHlo.after (hostOps0_4.drop 128) W (Proc.devRef .tc main_v141) : Vec Ideal S8x576x128 .f32) =
      transpose S8x576x128 [0, 2, 1] (shapeCast S8x128x576 (stack64 (lines W)) shapeCasts_S16x64x576_S8x128x576) transposes_S8x128x576_S8x576x128_0_2_1 := by
  simp only [hostOps0_4, List.drop_succ_cons, List.drop_zero]
  after_results
  rfl

/-- A part of the line of biases, of one row. -/
def cut (T : Vec Ideal S16x639 .f32) (o : ℕ) : Vec Ideal S16x1x576 .f32 :=
  fun y => T (ix2 (y 0) ⟨min (o + (y 2).val) 638, by omega⟩)

theorem cut_eq (T : Vec Ideal S16x639 .f32) (o : ℕ) (h : o ≤ 63) (ho : S16x639.Slices ![0, o] S16x576) :
    broadcastInDim S16x1x576 ![0, 2] bcast_S16x576_S16x1x576_0_2 (extractStridedSlice S16x576 ![0, o] T ho) = cut T o := by
  funext y
  unfold cut
  pointwise
  have hy : (y 2).val < 576 := (y 2).isLt
  exact congrArg T (congrArg (ix2 (y 0)) (Fin.ext (Nat.min_eq_left (by omega)).symm))

/-- A line of the stack. -/
theorem line_of (U : Valuation τ sig (Elt Ideal)) (a : Fin 4) (b : Fin 16) :
    lines (StableHlo.after (hostOps0_4.take 128) U) a b = cut (U (Proc.devRef .tc main_v6)) (63 - (a.val * 16 + b.val)) := by
  simp only [hostOps0_4, List.take_succ_cons, List.take_zero]
  unfold lines
  after_results
  fin_cases a <;> fin_cases b <;> exact cut_eq _ _ (by decide) (by decide)

/-- The line of biases after the shifts, the stack and the turn. -/
theorem shifted (U : Valuation τ sig (Elt Ideal)) (j : Fin 8) (s : Fin 576) (e : Fin 128) :
    (StableHlo.after hostOps0_4 U (Proc.devRef .tc main_v141) : Vec Ideal S8x576x128 .f32) (ix3 j s e) =
      (U (Proc.devRef .tc main_v6) : Vec Ideal S16x639 .f32) (ix2 ⟨j.val * 2 + e.val / 64, by omega⟩ ⟨63 - e.val % 64 + s.val, by omega⟩) := by
  rw [← List.take_append_drop 128 (hostOps0_4 (F := Ideal)), StableHlo.after_append, lines_turned]
  pointwise
  rw [stack64_at, line_of]
  refine congrArg (U (Proc.devRef .tc main_v6) : Vec Ideal S16x639 .f32) (congrArg₂ ix2 (Fin.ext ?_) (Fin.ext ?_))
  · rfl
  · show min (63 - (e.val % 64 / 16 * 16 + e.val % 64 % 16) + s.val) 638 = 63 - e.val % 64 + s.val
    omega

/-- Where the line's entries lie in the table. -/
def spots : IVec S639 32 :=
  addi (minsi (broadcastInDim S639 ![] bcast_S_S639 (constantI S_ 32 128#32))
    (maxsi (broadcastInDim S639 ![] bcast_S_S639 (constantI S_ 32 4294967168#32))
      (subi (broadcastInDim S639 ![] bcast_S_S639 (constantI S_ 32 575#32)) (iotaInDim S639 32 0))))
    (broadcastInDim S639 ![] bcast_S_S639 (constantI S_ 32 128#32))

/-- The same, counted from the table's end where negative. -/
def spots1 : IVec S639x1 32 :=
  broadcastInDim S639x1 ![0] bcast_S639_S639x1_0
    (select (cmpi .slt spots (broadcastInDim S639 ![] bcast_S_S639 (constantI S_ 32 0#32)))
      (addi spots (broadcastInDim S639 ![] bcast_S_S639 (constantI S_ 32 257#32))) spots)

/-- Which of them lie in the table. -/
def inside : IVec S639x1 1 :=
  andi (cmpi .sge spots1 (broadcastInDim S639x1 ![] bcast_S_S639x1 (constantI S_ 32 0#32)))
    (cmpi .sle spots1 (broadcastInDim S639x1 ![0, 1] bcast_S1x1_S639x1_0_1 (broadcastInDim S1x1 ![1] bcast_S1_S1x1_1 (constantI S1 32 256#32))))

/-- The same, of the line. -/
def held : IVec S639 1 :=
  Host.reduce IntOp.andi inside (constantI S_ 1 1#1) reducesTo_S639x1_S639_d1 h_S_

theorem spots1_at : ∀ l : Fin 639, spots1 (ix2 l 0) = BitVec.ofNat 32 (min (703 - l.val) 256) := by decide +kernel

theorem inside_at : ∀ l : Fin 639, inside (ix2 l 0) = 1#1 := by decide +kernel

theorem held_at (l : Fin 639) : held (ix1 l) = 1#1 := by
  refine Host.reduce_andi_one _ _ _ _ _ rfl fun i => ?_
  obtain ⟨x, z, rfl⟩ : ∃ (x : Fin 639) (z : Fin 1), i = ix2 x z := ⟨i 0, i 1, eq_ix2 i⟩
  rw [Subsingleton.elim z 0]
  exact inside_at x

theorem nat_at : ∀ l : Fin 639, min (spots1 (ix2 l 0)).toInt.toNat 256 = min (703 - l.val) 256 := by decide +kernel

/-- The line of biases. -/
theorem line_eq (U : Valuation τ sig (Elt Ideal)) :
    (StableHlo.after (List.flatten [hostOps0, hostOps0_1, hostOps0_2, hostOps0_3]) U (Proc.devRef .tc main_v6) : Vec Ideal S16x639 .f32) =
      select (broadcastInDim S16x639 ![1] bcast_S639_S16x639_1 held)
        (Host.gather (α := Elt Ideal .f32) gather_S16x257_S639x1_S16x639_0_1_n_n_1_1_161 (U (Proc.devRef .tc main_arg1) : FVec Ideal S16x257 .f32) spots1)
        (broadcastInDim S16x639 ![] bcast_S_S16x639 (constant (F := Ideal) S_ .f32 0x7FC00000#32)) := by
  simp only [hostOps0, hostOps0_1, hostOps0_2, hostOps0_3, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

/-- An entry of the line of biases. -/
theorem line_at (U : Valuation τ sig (Elt Ideal)) (h : Fin 16) (l : Fin 639) :
    (StableHlo.after (List.flatten [hostOps0, hostOps0_1, hostOps0_2, hostOps0_3]) U (Proc.devRef .tc main_v6) : Vec Ideal S16x639 .f32) (ix2 h l) =
      (U (Proc.devRef .tc main_arg1) : Vec Ideal S16x257 .f32) (ix2 h ⟨min (703 - l.val) 256, by omega⟩) := by
  rw [line_eq]
  have e : broadcastInDim S16x639 ![1] bcast_S639_S16x639_1 held (ix2 h l) = 1#1 := by
    pointwise
    exact held_at l
  refine (if_pos e).trans ?_
  rw [taken_at]
  exact congrArg (U (Proc.devRef .tc main_arg1) : Vec Ideal S16x257 .f32) (congrArg (ix2 h) (Fin.ext (nat_at l)))

/-- The table's entries where the scores take them: a query's and a key's distance in a chunk, held to 128 either way. -/
def spread (T : Vec Ideal S16x257 .f32) : Vec Ideal S16x64x576 .f32 :=
  fun y => T (ix2 (y 0) ⟨min ((y 1).val + 640 - (y 2).val) 256, by omega⟩)

/-- The bias the kernel is given, from the table. -/
theorem spread_at (U : Valuation τ sig (Elt Ideal)) (j : Fin 8) (s : Fin 576) (e : Fin 128) :
    (StableHlo.after (List.flatten [hostOps0, hostOps0_1, hostOps0_2, hostOps0_3, hostOps0_4]) U (Proc.devRef .tc main_v141) : Vec Ideal S8x576x128 .f32) (ix3 j s e) =
      spread (U (Proc.devRef .tc main_arg1)) (ix3 ⟨j.val * 2 + e.val / 64, by omega⟩ ⟨e.val % 64, by omega⟩ s) := by
  have h : List.flatten [hostOps0, hostOps0_1, hostOps0_2, hostOps0_3, hostOps0_4 (F := Ideal)] =
      List.flatten [hostOps0, hostOps0_1, hostOps0_2, hostOps0_3] ++ hostOps0_4 := by
    simp only [List.flatten_cons, List.flatten_nil, List.append_nil, List.append_assoc]
  rw [h, StableHlo.after_append, shifted, line_at]
  refine congrArg (U (Proc.devRef .tc main_arg1) : Vec Ideal S16x257 .f32) (congrArg (ix2 _) (Fin.ext ?_))
  show min (703 - (63 - e.val % 64 + s.val)) 256 = min (e.val % 64 + 640 - s.val) 256
  omega

end Cert.Kernel5Ideal.Tie
-- ==== Proof.Att3.lean ====
module

public import proofs.«01_k».proof.Defs
public import proofs.«01_k».proof.Proof.Att2
public import proofs.«01_k».proof.Proof.Bias
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel5Ideal.Tie

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The word of negative infinity is the least value. -/
theorem low_eq : low = ⊥ := by
  simp [low, Ideal.ofBits, Ideal.ieee]

/-- A masked key has no weight. -/
theorem weight_low (S : Fin 576 → EReal) (s : Fin 576) (h : S s = low) : weight S s = 0 := by
  unfold weight
  rw [h, low_eq, sub_eq_add_neg, EReal.bot_add]
  rfl

/-- The result depends on the keys that are not masked only. -/
theorem mix_congr (T : ℕ) (d d' b b' V V' : Fin 576 → EReal) (hd : ∀ s, T ≤ s.val → d s = d' s) (hb : b = b')
    (hV : ∀ s, T ≤ s.val → V s = V' s) : mix (score T d b) V = mix (score T d' b') V' := by
  subst hb
  have e : score T d b = score T d' b := by
    funext s
    unfold score
    by_cases h : T ≤ s.val
    · rw [if_pos h, if_pos h, hd s h]
    · rw [if_neg h, if_neg h]
  rw [e]
  unfold mix
  refine Finset.sum_congr rfl fun s _ => ?_
  by_cases h : T ≤ s.val
  · rw [hV s h]
  · rw [weight_low _ s (by unfold score; exact if_neg h), zero_mul, zero_mul, zero_mul]

/-- Where the windows' blocks lie. -/
theorem idx : ∀ t : Fin cfg0.N, win0_1.index t = ![t.val, 4] ∧ win0_2.index t = ![t.val - (if t.val % 8 = 0 then 0 else 1), 6]
    ∧ win0_3.index t = ![t.val, 6] ∧ win0_4.index t = ![t.val - (if t.val % 8 = 0 then 0 else 1), 7] ∧ win0_5.index t = ![t.val, 7]
    ∧ win0_11.index t = ![0, 0, 0] ∧ win0_12.index t = ![t.val, 0] :=
  (by decide +kernel : ∀ t : Fin grid0.N, _)

/-- The rows of queries, keys and values. -/
def xOf (c : Dev nD) : Vec Ideal S16384x8448 .bf16 := m ((c.tc : Thread nD τ).loc main_arg0)

/-- The bias of the scores. -/
def biasOf (c : Dev nD) : Vec Ideal S16x64x576 .f32 := spread (m ((c.tc : Thread nD τ).loc main_arg1))

/-- The block of queries. -/
theorem block1 (c : Dev nD) (t : Fin cfg0.N) (r : Fin 512) (k : Fin 1024) :
    (X0_1 m c t : Vec Ideal S512x1024 .bf16) (ix2 r k) =
      xOf m c (ix2 ⟨t.val * 512 + r.val, by have ht : t.val < 32 := t.isLt; omega⟩ ⟨4096 + k.val, by omega⟩) := by
  have ht : t.val < 32 := t.isLt
  unfold X0_1 Pipeline.Window.fill
  rw [dif_pos (moved0_1 t _)]
  blk_simp [iblk, idx t]
  refine Eq.trans (congrFun (V_main_arg0 m c) _) ?_
  refine congrArg (xOf m c) (funext fun a => Fin.ext ?_)
  have e : ∀ a, (win0_1.index t a * (![512, 1024] : Fin 2 → ℕ) a + 1 * (ix2 r k a).val) =
      (ix2 (⟨t.val * 512 + r.val, by omega⟩ : Fin 16384) (⟨4096 + k.val, by omega⟩ : Fin 8448) a).val := by
    intro a
    rw [(idx t).1]
    fin_cases a
    · show t.val * 512 + 1 * r.val = t.val * 512 + r.val
      omega
    · show 4 * 1024 + 1 * k.val = 4096 + k.val
      omega
  exact e a

/-- The keys before the block's own. -/
theorem block2 (c : Dev nD) (t : Fin cfg0.N) (r : Fin 512) (k : Fin 1024) (h8 : t.val % 8 ≠ 0) :
    (X0_2 m c t : Vec Ideal S512x1024 .bf16) (ix2 r k) =
      xOf m c (ix2 ⟨t.val * 512 + r.val - 512, by have ht : t.val < 32 := t.isLt; omega⟩ ⟨6144 + k.val, by omega⟩) := by
  have ht : t.val < 32 := t.isLt
  unfold X0_2 Pipeline.Window.fill
  rw [dif_pos (moved0_2 t _)]
  blk_simp [iblk, idx t]
  refine Eq.trans (congrFun (V_main_arg0 m c) _) ?_
  refine congrArg (xOf m c) (funext fun a => Fin.ext ?_)
  have e : ∀ a, (win0_2.index t a * (![512, 1024] : Fin 2 → ℕ) a + 1 * (ix2 r k a).val) =
      (ix2 (⟨t.val * 512 + r.val - 512, by omega⟩ : Fin 16384) (⟨6144 + k.val, by omega⟩ : Fin 8448) a).val := by
    intro a
    rw [(idx t).2.1]
    rw [if_neg h8]
    fin_cases a
    · show (t.val - 1) * 512 + 1 * r.val = t.val * 512 + r.val - 512
      omega
    · show 6 * 1024 + 1 * k.val = 6144 + k.val
      omega
  exact e a

/-- The block of keys. -/
theorem block3 (c : Dev nD) (t : Fin cfg0.N) (r : Fin 512) (k : Fin 1024) :
    (X0_3 m c t : Vec Ideal S512x1024 .bf16) (ix2 r k) =
      xOf m c (ix2 ⟨t.val * 512 + r.val, by have ht : t.val < 32 := t.isLt; omega⟩ ⟨6144 + k.val, by omega⟩) := by
  have ht : t.val < 32 := t.isLt
  unfold X0_3 Pipeline.Window.fill
  rw [dif_pos (moved0_3 t _)]
  blk_simp [iblk, idx t]
  refine Eq.trans (congrFun (V_main_arg0 m c) _) ?_
  refine congrArg (xOf m c) (funext fun a => Fin.ext ?_)
  have e : ∀ a, (win0_3.index t a * (![512, 1024] : Fin 2 → ℕ) a + 1 * (ix2 r k a).val) =
      (ix2 (⟨t.val * 512 + r.val, by omega⟩ : Fin 16384) (⟨6144 + k.val, by omega⟩ : Fin 8448) a).val := by
    intro a
    rw [(idx t).2.2.1]
    fin_cases a
    · show t.val * 512 + 1 * r.val = t.val * 512 + r.val
      omega
    · show 6 * 1024 + 1 * k.val = 6144 + k.val
      omega
  exact e a

/-- The values before the block's own. -/
theorem block4 (c : Dev nD) (t : Fin cfg0.N) (r : Fin 512) (k : Fin 1024) (h8 : t.val % 8 ≠ 0) :
    (X0_4 m c t : Vec Ideal S512x1024 .bf16) (ix2 r k) =
      xOf m c (ix2 ⟨t.val * 512 + r.val - 512, by have ht : t.val < 32 := t.isLt; omega⟩ ⟨7168 + k.val, by omega⟩) := by
  have ht : t.val < 32 := t.isLt
  unfold X0_4 Pipeline.Window.fill
  rw [dif_pos (moved0_4 t _)]
  blk_simp [iblk, idx t]
  refine Eq.trans (congrFun (V_main_arg0 m c) _) ?_
  refine congrArg (xOf m c) (funext fun a => Fin.ext ?_)
  have e : ∀ a, (win0_4.index t a * (![512, 1024] : Fin 2 → ℕ) a + 1 * (ix2 r k a).val) =
      (ix2 (⟨t.val * 512 + r.val - 512, by omega⟩ : Fin 16384) (⟨7168 + k.val, by omega⟩ : Fin 8448) a).val := by
    intro a
    rw [(idx t).2.2.2.1]
    rw [if_neg h8]
    fin_cases a
    · show (t.val - 1) * 512 + 1 * r.val = t.val * 512 + r.val - 512
      omega
    · show 7 * 1024 + 1 * k.val = 7168 + k.val
      omega
  exact e a

/-- The block of values. -/
theorem block5 (c : Dev nD) (t : Fin cfg0.N) (r : Fin 512) (k : Fin 1024) :
    (X0_5 m c t : Vec Ideal S512x1024 .bf16) (ix2 r k) =
      xOf m c (ix2 ⟨t.val * 512 + r.val, by have ht : t.val < 32 := t.isLt; omega⟩ ⟨7168 + k.val, by omega⟩) := by
  have ht : t.val < 32 := t.isLt
  unfold X0_5 Pipeline.Window.fill
  rw [dif_pos (moved0_5 t _)]
  blk_simp [iblk, idx t]
  refine Eq.trans (congrFun (V_main_arg0 m c) _) ?_
  refine congrArg (xOf m c) (funext fun a => Fin.ext ?_)
  have e : ∀ a, (win0_5.index t a * (![512, 1024] : Fin 2 → ℕ) a + 1 * (ix2 r k a).val) =
      (ix2 (⟨t.val * 512 + r.val, by omega⟩ : Fin 16384) (⟨7168 + k.val, by omega⟩ : Fin 8448) a).val := by
    intro a
    rw [(idx t).2.2.2.2.1]
    fin_cases a
    · show t.val * 512 + 1 * r.val = t.val * 512 + r.val
      omega
    · show 7 * 1024 + 1 * k.val = 7168 + k.val
      omega
  exact e a

/-- The bias, a head pair's two heads side by side. -/
theorem block11 (c : Dev nD) (t : Fin cfg0.N) (j : Fin 8) (s : Fin 576) (l : Fin 128) :
    (iblk m c 11 t : Vec Ideal S8x576x128 .f32) (ix3 j s l) =
      biasOf m c (ix3 ⟨j.val * 2 + l.val / 64, by omega⟩ ⟨l.val % 64, by omega⟩ s) := by
  refine Eq.trans (b := (V m c main_v141 : Vec Ideal S8x576x128 .f32) (ix3 j s l)) ?_ ?_
  · blk_simp [iblk, idx t]
    refine congrArg (V m c main_v141 : Vec Ideal S8x576x128 .f32) (funext fun a => Fin.ext ?_)
    have e : ∀ a, (win0_11.index t a * (![8, 576, 128] : Fin 3 → ℕ) a + 1 * (ix3 j s l a).val) = (ix3 j s l a).val := by
      intro a
      rw [(idx t).2.2.2.2.2.1]
      fin_cases a
      · show 0 * 8 + 1 * j.val = j.val
        omega
      · show 0 * 576 + 1 * s.val = s.val
        omega
      · show 0 * 128 + 1 * l.val = l.val
        omega
    exact e a
  · exact spread_at (fun b => m (c, b)) j s l

/-- Two blocks of rows, one below the other. -/
def stack (A B : Vec Ideal S512x1024 .bf16) (y : S1024x1024.Idx) : Elt Ideal .bf16 :=
  if h : (y 0).val < 512 then A (ix2 ⟨(y 0).val, h⟩ (y 1))
  else B (ix2 ⟨(y 0).val - 512, by have h2 : (y 0).val < 1024 := (y 0).isLt; omega⟩ (y 1))

/-- Two blocks of rows stored one below the other. -/
theorem stacked {sp : Space} (v : View sig .tc sp S1024x1024 .bf16) (A B : Vec Ideal S512x1024 .bf16)
    (inb1 : ∀ a, (![512, 0] : Fin 2 → ℕ) a + S512x1024.size a ≤ S1024x1024.size a)
    (inb2 : ∀ a, (![0, 0] : Fin 2 → ℕ) a + S512x1024.size a ≤ S1024x1024.size a)
    (L : List (View.Piece (Elt Ideal) S1024x1024 .bf16))
    (hL : L = [⟨Rect.unit (s := S1024x1024) ![512, 0] S512x1024.size inb1, B⟩, ⟨Rect.unit (s := S1024x1024) ![0, 0] S512x1024.size inb2, A⟩])
    (r : Fin 1024) (k : Fin 1024) :
    v.read (Elt Ideal) (v.writes (Elt Ideal) v.junk L) (ix2 r k) =
      stack A B (ix2 r k) := by
  subst hL
  rw [View.read_writes_junk_eq_canon]
  have hp : View.PiecesOf (stack A B) ([⟨Rect.unit (s := S1024x1024) ![512, 0] S512x1024.size inb1, B⟩,
      ⟨Rect.unit (s := S1024x1024) ![0, 0] S512x1024.size inb2, A⟩] : List (View.Piece (Elt Ideal) S1024x1024 .bf16)) := by
    refine ⟨fun x => ?_, fun x => ?_, trivial⟩
    · obtain ⟨x0, x1, rfl⟩ : ∃ (x0 : Fin 512) (x1 : Fin 1024), x = ix2 x0 x1 := ⟨x 0, x 1, eq_ix2 x⟩
      refine Eq.trans ?_ (congrArg (stack A B) (emb_two (n0 := 1024) (n1 := 1024) ![512, 0] 512 0 rfl inb1 x0 x1 (by omega) (by omega))).symm
      refine Eq.trans ?_ (dif_neg (by show ¬ 512 + x0.val < 512; omega)).symm
      exact congrArg B (congrArg₂ ix2 (Fin.ext (by show x0.val = 512 + x0.val - 512; omega)) (Fin.ext (by show x1.val = 0 + x1.val; omega)))
    · obtain ⟨x0, x1, rfl⟩ : ∃ (x0 : Fin 512) (x1 : Fin 1024), x = ix2 x0 x1 := ⟨x 0, x 1, eq_ix2 x⟩
      refine Eq.trans ?_ (congrArg (stack A B) (emb_two (n0 := 1024) (n1 := 1024) ![0, 0] 0 0 rfl inb2 x0 x1 (by omega) (by omega))).symm
      refine Eq.trans ?_ (dif_pos (by show 0 + x0.val < 512; omega)).symm
      exact congrArg A (congrArg₂ ix2 (Fin.ext (by show x0.val = 0 + x0.val; omega)) (Fin.ext (by show x1.val = 0 + x1.val; omega)))
  refine View.canon_apply_of_pieces (stack A B) _ (View.PiecesOf.mem hp) (ix2 r k) ?_
  · by_cases h : r.val < 512
    · refine ⟨_, .tail _ (.head _), (Rect.mem_set_unit (inb := inb2)).mpr fun a => ?_⟩
      fin_cases a
      · show 0 ≤ r.val ∧ r.val < 0 + 512
        omega
      · show 0 ≤ k.val ∧ k.val < 0 + 1024
        omega
    · refine ⟨_, .head _, (Rect.mem_set_unit (inb := inb1)).mpr fun a => ?_⟩
      fin_cases a
      · show 512 ≤ r.val ∧ r.val < 512 + 512
        omega
      · show 0 ≤ k.val ∧ k.val < 0 + 1024
        omega

/-- The attention's result at a row and a column, from the rows of queries, keys and values and the bias. -/
def attn (x : Vec Ideal S16384x8448 .bf16) (bias : Vec Ideal S16x64x576 .f32) (R : Fin 16384) (L : Fin 1024) : EReal :=
  mix (score (512 - 64 * (R.val / 64 % 64))
      (fun s => ∑ e : Fin 64, x (ix2 ⟨R.val / 64 * 64 + s.val - 512, by omega⟩ ⟨6144 + (L.val / 64 * 64 + e.val), by omega⟩) *
        x (ix2 R ⟨4096 + (L.val / 64 * 64 + e.val), by omega⟩))
      (fun s => bias (ix3 ⟨L.val / 64, by omega⟩ ⟨R.val % 64, by omega⟩ s)))
    (fun s => x (ix2 ⟨R.val / 64 * 64 + s.val - 512, by omega⟩ ⟨7168 + L.val, by omega⟩))

/-- A block's rows are rows of the attention. -/
theorem rows_attn (t : ℕ) (ht : t < 32) (Q : FVec Ideal S512x1024 .bf16) (K V : FVec Ideal S1024x1024 .bf16) (B : FVec Ideal S8x576x128 .f32)
    (x : Vec Ideal S16384x8448 .bf16) (bias : Vec Ideal S16x64x576 .f32)
    (hQ : ∀ (r : Fin 512) (k : Fin 1024), Q (ix2 r k) = x (ix2 ⟨t * 512 + r.val, by omega⟩ ⟨4096 + k.val, by omega⟩))
    (hK : ∀ (r : Fin 1024) (k : Fin 1024), t % 8 ≠ 0 ∨ 512 ≤ r.val →
      K (ix2 r k) = x (ix2 ⟨t * 512 + r.val - 512, by omega⟩ ⟨6144 + k.val, by omega⟩))
    (hV : ∀ (r : Fin 1024) (k : Fin 1024), t % 8 ≠ 0 ∨ 512 ≤ r.val →
      V (ix2 r k) = x (ix2 ⟨t * 512 + r.val - 512, by omega⟩ ⟨7168 + k.val, by omega⟩))
    (hB : ∀ (j : Fin 8) (s : Fin 576) (l : Fin 128), B (ix3 j s l) = bias (ix3 ⟨j.val * 2 + l.val / 64, by omega⟩ ⟨l.val % 64, by omega⟩ s))
    (r : Fin 512) (l : Fin 1024) :
    rowsAt (fun n => if t % 8 = 0 then 512 - 64 * n else 0) Q K V B r l = attn x bias ⟨t * 512 + r.val, by omega⟩ l := by
  have eT : (if t % 8 = 0 then 512 - 64 * (r.val / 64) else 0) = 512 - 64 * ((t * 512 + r.val) / 64 % 64) := by
    split_ifs <;> omega
  have far : ∀ s : ℕ, (if t % 8 = 0 then 512 - 64 * (r.val / 64) else 0) ≤ s → t % 8 ≠ 0 ∨ 512 ≤ r.val / 64 * 64 + s := by
    intro s h
    by_cases h8 : t % 8 = 0
    · rw [if_pos h8] at h
      omega
    · exact .inl h8
  unfold rowsAt attn
  refine (mix_congr _ _ _ (fun s => bias (ix3 ⟨l.val / 64, by omega⟩ ⟨(t * 512 + r.val) % 64, by omega⟩ s)) _
    (fun s => x (ix2 ⟨(t * 512 + r.val) / 64 * 64 + s.val - 512, by omega⟩ ⟨7168 + l.val, by omega⟩)) (d' := fun s => ∑ e : Fin 64,
      x (ix2 ⟨(t * 512 + r.val) / 64 * 64 + s.val - 512, by omega⟩ ⟨6144 + (l.val / 64 * 64 + e.val), by omega⟩) *
        x (ix2 ⟨t * 512 + r.val, by omega⟩ ⟨4096 + (l.val / 64 * 64 + e.val), by omega⟩)) (fun s h => ?_) (funext fun s => ?_) (fun s h => ?_)).trans ?_
  · refine Finset.sum_congr rfl fun e _ => congrArg₂ (· * ·) ?_ ?_
    · refine (hK _ _ (far _ h)).trans (congrArg x (congrArg₂ ix2 (Fin.ext ?_) rfl))
      show t * 512 + (r.val / 64 * 64 + s.val) - 512 = (t * 512 + r.val) / 64 * 64 + s.val - 512
      omega
    · exact hQ _ _
  · refine (hB _ _ _).trans (congrArg bias (congrArg₂ (fun a b => ix3 a b s) (Fin.ext ?_) (Fin.ext ?_)))
    · show l.val / 128 * 2 + (l.val / 64 % 2 * 64 + r.val % 64) / 64 = l.val / 64
      omega
    · show (l.val / 64 % 2 * 64 + r.val % 64) % 64 = (t * 512 + r.val) % 64
      omega
  · refine (hV _ _ (far _ h)).trans (congrArg x (congrArg₂ ix2 (Fin.ext ?_) rfl))
    show t * 512 + (r.val / 64 * 64 + s.val) - 512 = (t * 512 + r.val) / 64 * 64 + s.val - 512
    omega
  · exact congrArg (fun n => mix (score n _ _) _) eT

/-- The first key that is not masked, as the kernel computes it. -/
theorem first_key : ∀ (t : Fin cfg0.N) (k : Fin k0_t1_loop.trips),
    Scalar.select (Scalar.cmpi .sgt (BitVec.ofNat 32 (grid0.coords t 1).val) 0#32) 0#32
      (Scalar.subi 512#32 (Scalar.muli (Scf.iv 0#32 1#32 k) 64#32)) =
    BitVec.ofNat 32 (if t.val % 8 = 0 then 512 - 64 * k.val else 0) :=
  (by decide +kernel : ∀ (t : Fin grid0.N) (k : Fin k0_t1_loop.trips), _)

end Cert.Kernel5Ideal.Tie
-- ==== Proof.Att4.lean ====
module

public import proofs.«01_k».proof.Defs
public import proofs.«01_k».proof.Proof.Att3
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel5Ideal.Tie

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- A block is stored as it is. -/
theorem payK0 (X : Vec Ideal S512x1024 .bf16) : k0_pay62 (F := Ideal) X = X := by
  funext y
  idx_vars y
  unfold k0_pay62
  pointwise

/-- A block is stored as it is. -/
theorem payK1 (X : Vec Ideal S512x1024 .bf16) : k0_pay63 (F := Ideal) X = X := by
  funext y
  idx_vars y
  unfold k0_pay63
  pointwise

/-- A block is stored as it is. -/
theorem payV0 (X : Vec Ideal S512x1024 .bf16) : k0_pay64 (F := Ideal) X = X := by
  funext y
  idx_vars y
  unfold k0_pay64
  pointwise

/-- A block is stored as it is. -/
theorem payV1 (X : Vec Ideal S512x1024 .bf16) : k0_pay65 (F := Ideal) X = X := by
  funext y
  idx_vars y
  unfold k0_pay65
  pointwise

set_option maxHeartbeats 2000000 in
/-- The array the kernel leaves in its first result. -/
theorem arr12 (c : Dev nD) : ((dats m 0 c).arrAt 12 cfg0.N : Vec Ideal S16384x1024 .bf16) =
    (fun y : S16384x1024.Idx => attn (xOf m c) (biasOf m c) (y 0) (y 1)) := by
  refine (dats m 0 c).arrAt_eq_of_covers 12 _ (by decide +kernel) fun t hf y => ?_
  blk_simp [idx t]
  rw [after0_12]
  simp only [outsAt0]
  frame_out
  have ht : t.val < 32 := t.isLt
  rw [loop_value (T := fun n => if t.val % 8 = 0 then 512 - 64 * n else 0) (hT := fun n => by dsimp only; split_ifs <;> omega)
    (hw := first_key t) (hn := rfl)]
  rw [Memref.IsWhole.read_unread, Memref.IsWhole.read_unread]
  obtain ⟨r, l, rfl⟩ : ∃ (r : Fin 512) (l : Fin 1024), y = ix2 r l := ⟨y 0, y 1, eq_ix2 y⟩
  refine (rows_attn t.val ht _ _ _ _ (xOf m c) (biasOf m c) (fun r k => block1 m c t r k) (fun r k h => ?_) (fun r k h => ?_)
    (fun j s l => block11 m c t j s l) r l).trans ?_
  · refine (stacked _ _ _ _ _ _ rfl r k).trans ?_
    by_cases hr : r.val < 512
    · exact (dif_pos hr).trans ((congrArg (fun X : Vec Ideal S512x1024 .bf16 => X (ix2 ⟨r.val, hr⟩ k)) (payK0 _)).trans
        (block2 m c t ⟨r.val, hr⟩ k (h.resolve_right (by omega))))
    · refine (dif_neg hr).trans ((congrArg (fun X : Vec Ideal S512x1024 .bf16 => X (ix2 ⟨r.val - 512, by omega⟩ k)) (payK1 _)).trans
        ((block3 m c t ⟨r.val - 512, by omega⟩ k).trans (congrArg (xOf m c) (congrArg₂ ix2 (Fin.ext ?_) rfl))))
      show t.val * 512 + (r.val - 512) = t.val * 512 + r.val - 512
      omega
  · refine (stacked _ _ _ _ _ _ rfl r k).trans ?_
    by_cases hr : r.val < 512
    · exact (dif_pos hr).trans ((congrArg (fun X : Vec Ideal S512x1024 .bf16 => X (ix2 ⟨r.val, hr⟩ k)) (payV0 _)).trans
        (block4 m c t ⟨r.val, hr⟩ k (h.resolve_right (by omega))))
    · refine (dif_neg hr).trans ((congrArg (fun X : Vec Ideal S512x1024 .bf16 => X (ix2 ⟨r.val - 512, by omega⟩ k)) (payV1 _)).trans
        ((block5 m c t ⟨r.val - 512, by omega⟩ k).trans (congrArg (xOf m c) (congrArg₂ ix2 (Fin.ext ?_) rfl))))
      show t.val * 512 + (r.val - 512) = t.val * 512 + r.val - 512
      omega
  · have e : ∀ a, (ix2 (⟨t.val * 512 + r.val, by omega⟩ : Fin 16384) l a).val =
        (win0_12.index t a * (![512, 1024] : Fin 2 → ℕ) a + 1 * (ix2 r l a).val) := by
      intro a
      rw [(idx t).2.2.2.2.2.2]
      fin_cases a
      · show t.val * 512 + r.val = t.val * 512 + 1 * r.val
        omega
      · show l.val = 0 * 1024 + 1 * l.val
        omega
    exact congrArg₂ (attn (xOf m c) (biasOf m c)) (Fin.ext (e 0)) (Fin.ext (e 1))

end Cert.Kernel5Ideal.Tie
-- ==== Proof.Att5.lean ====
module

public import proofs.«01_k».proof.Defs
public import proofs.«01_k».proof.Proof.Att3
public import proofs.«01_k».proof.Proof.Gen.Reference5Ideal.Run
public import Idealize.ShloMosaic.Lib.Pipeline.ValueKit
public import Idealize.ShloMosaic.Lib.Pointwise
public import Idealize.ShloMosaic.Lib.WordCmp
public import Idealize.ShloMosaic.Lib.IdealHost
public import Idealize.ShloMosaic.Lib.Claim

@[expose] public section

set_option maxRecDepth 16384

noncomputable section

namespace Cert.Reference5Ideal.Tie

open Cert.Reference5Ideal Cert.Reference5Ideal.Gen Idealize.ShloMosaic Idealize.ShloMosaic.TcCoe Idealize.SL.Sem
open Cert.Kernel5Ideal.Tie (low score weight spread)

/-- Columns of the rows as heads, read to the wider type. -/
def wide (X : FVec Ideal S16384x1024 .bf16) : FVec Ideal S4x4096x16x64 .f32 :=
  extf .f32 (shapeCast S4x4096x16x64 X shapeCasts_S16384x1024_S4x4096x16x64) bitsLt_bf16_f32

theorem wide_at (X : FVec Ideal S16384x1024 .bf16) (b : Fin 4) (r : Fin 4096) (g : Fin 16) (d : Fin 64) :
    wide X (ix4 b r g d) = X (ix2 ⟨b.val * 4096 + r.val, by omega⟩ ⟨g.val * 64 + d.val, by omega⟩) := by
  unfold wide
  pointwise

/-- The columns of the queries. -/
theorem cols_q (x : FVec Ideal S16384x8448 .bf16) (r : Fin 16384) (k : Fin 1024) :
    extractStridedSlice S16384x1024 ![0, 4096] x slices_S16384x8448_S16384x1024_0_4096 (ix2 r k) = x (ix2 r ⟨4096 + k.val, by omega⟩) := by
  pointwise

/-- The columns of the keys. -/
theorem cols_k (x : FVec Ideal S16384x8448 .bf16) (r : Fin 16384) (k : Fin 1024) :
    extractStridedSlice S16384x1024 ![0, 6144] x slices_S16384x8448_S16384x1024_0_6144 (ix2 r k) = x (ix2 r ⟨6144 + k.val, by omega⟩) := by
  pointwise

/-- The columns of the values. -/
theorem cols_v (x : FVec Ideal S16384x8448 .bf16) (r : Fin 16384) (k : Fin 1024) :
    extractStridedSlice S16384x1024 ![0, 7168] x slices_S16384x8448_S16384x1024_0_7168 (ix2 r k) = x (ix2 r ⟨7168 + k.val, by omega⟩) := by
  pointwise

/-- The rows as chunks. -/
def rowsOf (X : FVec Ideal S4x4096x16x64 .f32) : FVec Ideal S4x64x64x16x64 .f32 :=
  shapeCast S4x64x64x16x64 X shapeCasts_S4x4096x16x64_S4x64x64x16x64

theorem rowsOf_at (X : FVec Ideal S4x4096x16x64 .f32) (b : Fin 4) (n q : Fin 64) (g : Fin 16) (d : Fin 64) :
    rowsOf X (ix5 b n q g d) = X (ix4 b ⟨n.val * 64 + q.val, by omega⟩ g d) := by
  unfold rowsOf
  pointwise

/-- The rows behind eight chunks of zeros. -/
def padded (X : FVec Ideal S4x4096x16x64 .f32) : FVec Ideal S4x4608x16x64 .f32 :=
  pad S4x4608x16x64 ![0, 512, 0, 0] ![0, 0, 0, 0] ![0, 0, 0, 0] X (sitofp .f32 (constantI S_ 32 0#32))
    pads_S4x4096x16x64_S4x4608x16x64_000_51200_000_000 h_S_

theorem padded_at (X : FVec Ideal S4x4096x16x64 .f32) (b : Fin 4) (r : Fin 4608) (g : Fin 16) (d : Fin 64) (h : 512 ≤ r.val) :
    padded X (ix4 b r g d) = X (ix4 b ⟨r.val - 512, by omega⟩ g d) := by
  unfold padded
  pointwise
  exact dif_pos ⟨h, by omega⟩

/-- The padded rows as chunks. -/
def blocks (X : FVec Ideal S4x4608x16x64 .f32) : FVec Ideal S4x72x64x16x64 .f32 :=
  shapeCast S4x72x64x16x64 X shapeCasts_S4x4608x16x64_S4x72x64x16x64

theorem blocks_at (X : FVec Ideal S4x4608x16x64 .f32) (b : Fin 4) (n : Fin 72) (s : Fin 64) (g : Fin 16) (d : Fin 64) :
    blocks X (ix5 b n s g d) = X (ix4 b ⟨n.val * 64 + s.val, by omega⟩ g d) := by
  unfold blocks
  pointwise

/-- Every chunk's keys. -/
def keysOf (Y : FVec Ideal S4x72x64x16x64 .f32) : FVec Ideal S4x64x576x16x64 .f32 :=
  concatenate S4x64x576x16x64 2
    [⟨S4x64x64x16x64, extractStridedSlice S4x64x64x16x64 ![0, 0, 0, 0, 0] Y slices_S4x72x64x16x64_S4x64x64x16x64_0_0_0_0_0⟩,
     ⟨S4x64x64x16x64, extractStridedSlice S4x64x64x16x64 ![0, 1, 0, 0, 0] Y slices_S4x72x64x16x64_S4x64x64x16x64_0_1_0_0_0⟩,
     ⟨S4x64x64x16x64, extractStridedSlice S4x64x64x16x64 ![0, 2, 0, 0, 0] Y slices_S4x72x64x16x64_S4x64x64x16x64_0_2_0_0_0⟩,
     ⟨S4x64x64x16x64, extractStridedSlice S4x64x64x16x64 ![0, 3, 0, 0, 0] Y slices_S4x72x64x16x64_S4x64x64x16x64_0_3_0_0_0⟩,
     ⟨S4x64x64x16x64, extractStridedSlice S4x64x64x16x64 ![0, 4, 0, 0, 0] Y slices_S4x72x64x16x64_S4x64x64x16x64_0_4_0_0_0⟩,
     ⟨S4x64x64x16x64, extractStridedSlice S4x64x64x16x64 ![0, 5, 0, 0, 0] Y slices_S4x72x64x16x64_S4x64x64x16x64_0_5_0_0_0⟩,
     ⟨S4x64x64x16x64, extractStridedSlice S4x64x64x16x64 ![0, 6, 0, 0, 0] Y slices_S4x72x64x16x64_S4x64x64x16x64_0_6_0_0_0⟩,
     ⟨S4x64x64x16x64, extractStridedSlice S4x64x64x16x64 ![0, 7, 0, 0, 0] Y slices_S4x72x64x16x64_S4x64x64x16x64_0_7_0_0_0⟩,
     ⟨S4x64x64x16x64, extractStridedSlice S4x64x64x16x64 ![0, 8, 0, 0, 0] Y slices_S4x72x64x16x64_S4x64x64x16x64_0_8_0_0_0⟩]
    concatenates_S4x64x64x16x64_S4x64x64x16x64_S4x64x64x16x64_S4x64x64x16x64_S4x64x64x16x64_S4x64x64x16x64_S4x64x64x16x64_S4x64x64x16x64_S4x64x64x16x64_S4x64x576x16x64_d2

theorem keysOf_at (Y : FVec Ideal S4x72x64x16x64 .f32) (b : Fin 4) (n : Fin 64) (s : Fin 576) (g : Fin 16) (d : Fin 64) :
    keysOf Y (ix5 b n s g d) = Y (ix5 b ⟨n.val + s.val / 64, by omega⟩ ⟨s.val % 64, by omega⟩ g d) := by
  unfold keysOf
  pointwise
  repeat' split
  all_goals
    refine congrArg Y (congrArg₂ (fun a e => ix5 b a e g d) (Fin.ext ?_) (Fin.ext ?_)) <;> dsimp only <;> omega

/-- The words of the keys' positions. -/
theorem position : ∀ (n : Fin 64) (s : Fin 576),
    IntOp.cmpi .sge (IntOp.addi (IntOp.muli (IntOp.subi (BitVec.ofNat 32 n.val) 8#32) 64#32) (BitVec.ofNat 32 s.val)) 0#32 =
      if 512 - 64 * n.val ≤ s.val then 1#1 else 0#1 := by
  decide +kernel

/-- Which keys are not before the sequence. -/
def inside : IVec S64x576 1 :=
  cmpi .sge (addi (broadcastInDim S64x576 ![0, 1] bcast_S64x1_S64x576_0_1
      (muli (subi (broadcastInDim S64x1 ![0] bcast_S64_S64x1_0 (iotaInDim S64 32 0)) (broadcastInDim S64x1 ![] bcast_S_S64x1 (constantI S_ 32 8#32)))
        (broadcastInDim S64x1 ![] bcast_S_S64x1 (constantI S_ 32 64#32))))
    (broadcastInDim S64x576 ![0, 1] bcast_S1x576_S64x576_0_1 (broadcastInDim S1x576 ![1] bcast_S576_S1x576_1 (iotaInDim S576 32 0))))
    (broadcastInDim S64x576 ![] bcast_S_S64x576 (constantI S_ 32 0#32))

theorem inside_at (n : Fin 64) (s : Fin 576) : inside (ix2 n s) = if 512 - 64 * n.val ≤ s.val then 1#1 else 0#1 := by
  unfold inside
  pointwise
  exact position n s

/-- The scores. -/
def scores (q : FVec Ideal S4x64x64x16x64 .f32) (k : FVec Ideal S4x64x576x16x64 .f32) (bias : FVec Ideal S16x64x576 .f32) :
    FVec Ideal S4x64x16x64x576 .f32 :=
  select (broadcastInDim S4x64x16x64x576 ![0, 1, 2, 3, 4] bcast_S1x64x1x1x576_S4x64x16x64x576_0_1_2_3_4
      (broadcastInDim S1x64x1x1x576 ![1, 4] bcast_S64x576_S1x64x1x1x576_1_4 inside))
    (addf (mulf (Host.dotGeneral dot_S4x64x64x16x64_S4x64x576x16x64_S4x64x16x64x576_4_4_2_2_013_013 none q k)
        (broadcastInDim S4x64x16x64x576 ![] bcast_S_S4x64x16x64x576 (constant S_ .f32 0x3E000000#32)))
      (broadcastInDim S4x64x16x64x576 ![0, 1, 2, 3, 4] bcast_S1x1x16x64x576_S4x64x16x64x576_0_1_2_3_4
        (broadcastInDim S1x1x16x64x576 ![2, 3, 4] bcast_S16x64x576_S1x1x16x64x576_2_3_4 bias)))
    (broadcastInDim S4x64x16x64x576 ![] bcast_S_S4x64x16x64x576 (id (constant S_ .f32 0xFF800000#32)))

theorem scores_at (q : FVec Ideal S4x64x64x16x64 .f32) (k : FVec Ideal S4x64x576x16x64 .f32) (bias : FVec Ideal S16x64x576 .f32)
    (b : Fin 4) (n : Fin 64) (g : Fin 16) (r : Fin 64) (s : Fin 576) :
    scores q k bias (ix5 b n g r s) =
      score (512 - 64 * n.val) (fun s => ∑ e : Fin 64, k (ix5 b n s g e) * q (ix5 b n r g e)) (fun s => bias (ix3 g r s)) s := by
  unfold scores
  pointwise
  rw [inside_at]
  unfold score
  refine Eq.trans (congrArg (fun a => Scalar.select _ (a * _ + _) _) (Finset.sum_congr rfl fun e _ => mul_comm _ _)) ?_
  by_cases h : 512 - 64 * n.val ≤ s.val
  · rw [if_pos h, if_pos h]
    rfl
  · rw [if_neg h, if_neg h]
    rfl

/-- The weights of the keys. -/
def weights (S : FVec Ideal S4x64x16x64x576 .f32) : FVec Ideal S4x64x16x64x576 .f32 :=
  Host.exp (subf S (broadcastInDim S4x64x16x64x576 ![0, 1, 2, 3, 4] bcast_S4x64x16x64x1_S4x64x16x64x576_0_1_2_3_4
    (broadcastInDim S4x64x16x64x1 ![0, 1, 2, 3] bcast_S4x64x16x64_S4x64x16x64x1_0_1_2_3
      (Host.reduce FloatOps.maximumf S (constant S_ .f32 0xFF800000#32) reducesTo_S4x64x16x64x576_S4x64x16x64_d4 h_S_))))

theorem weights_at (S : FVec Ideal S4x64x16x64x576 .f32) (b : Fin 4) (n : Fin 64) (g : Fin 16) (r : Fin 64) (s : Fin 576) :
    weights S (ix5 b n g r s) = weight (fun s => S (ix5 b n g r s)) s := by
  unfold weights
  pointwise
  rfl

/-- The weights, each divided by their sum. -/
def shares (W : FVec Ideal S4x64x16x64x576 .f32) : FVec Ideal S4x64x16x64x576 .f32 :=
  extf .f32 (truncf .bf16 (Host.divf W (broadcastInDim S4x64x16x64x576 ![0, 1, 2, 3, 4] bcast_S4x64x16x64x1_S4x64x16x64x576_0_1_2_3_4
    (broadcastInDim S4x64x16x64x1 ![0, 1, 2, 3] bcast_S4x64x16x64_S4x64x16x64x1_0_1_2_3
      (Host.reduceAdd W (constant S_ .f32 0x00000000#32) reducesTo_S4x64x16x64x576_S4x64x16x64_d4 h_S_)))) bitsLt_bf16_f32) bitsLt_bf16_f32

theorem shares_at (W : FVec Ideal S4x64x16x64x576 .f32) (b : Fin 4) (n : Fin 64) (g : Fin 16) (r : Fin 64) (s : Fin 576) :
    shares W (ix5 b n g r s) = Ideal.div (W (ix5 b n g r s)) (∑ u : Fin 576, W (ix5 b n g r u)) := by
  unfold shares
  pointwise

/-- The values in their shares. -/
def mixed (v : FVec Ideal S4x64x576x16x64 .f32) (p : FVec Ideal S4x64x16x64x576 .f32) : FVec Ideal S4x64x64x16x64 .f32 :=
  transpose S4x64x64x16x64 [0, 1, 4, 2, 3]
    (Host.dotGeneral dot_S4x64x576x16x64_S4x64x16x64x576_S4x64x16x64x64_2_4_4_3_013_012 none v p)
    transposes_S4x64x16x64x64_S4x64x64x16x64_0_1_4_2_3

theorem mixed_at (v : FVec Ideal S4x64x576x16x64 .f32) (p : FVec Ideal S4x64x16x64x576 .f32) (b : Fin 4) (n r : Fin 64) (g : Fin 16) (d : Fin 64) :
    mixed v p (ix5 b n r g d) = ∑ s : Fin 576, v (ix5 b n s g d) * p (ix5 b n g r s) := by
  unfold mixed
  pointwise

/-- The heads side by side. -/
def flat (X : FVec Ideal S4x64x64x16x64 .f32) : FVec Ideal S16384x1024 .bf16 :=
  truncf .bf16 (shapeCast S16384x1024 X shapeCasts_S4x64x64x16x64_S16384x1024) bitsLt_bf16_f32

theorem flat_at (X : FVec Ideal S4x64x64x16x64 .f32) (R : Fin 16384) (L : Fin 1024) :
    flat X (ix2 R L) = X (ix5 ⟨R.val / 4096, by omega⟩ ⟨R.val / 64 % 64, by omega⟩ ⟨R.val % 64, by omega⟩ ⟨L.val / 64, by omega⟩ ⟨L.val % 64, by omega⟩) := by
  unfold flat
  pointwise

/-- A number of the table's entries taken for each query and key. -/
theorem entry_at (x : FVec Ideal S16x257 .f32) (w : IVec S64x576x1 32) (g : Fin 16) (q : Fin 64) (s : Fin 576) :
    Host.gather gather_S16x257_S64x576x1_S16x64x576_0_1_n_n_1_2_161 x w (ix3 g q s) =
      x (ix2 g ⟨min (w (ix3 q s 0)).toInt.toNat 256, by omega⟩) := by
  unfold Host.gather
  refine congrArg x (funext fun a => Fin.ext ?_)
  show GatherDims.start _ _ w a + GatherDims.batchCoord _ _ a + GatherDims.offCoord _ _ a = _
  rw [GatherDims.batchCoord_eq_zero _ _ _ List.not_mem_nil, add_zero]
  fin_cases a
  · unfold GatherDims.start
    rw [dif_neg (by decide)]
    exact zero_add _
  · rw [GatherDims.offCoord_eq_zero _ _ _ (by decide)]
    unfold GatherDims.start
    rw [dif_pos (by decide)]
    refine congrArg (fun i => min (w i).toInt.toNat 256) (funext fun b => Fin.ext ?_)
    fin_cases b <;> rfl

/-- The word of a query's and a key's distance, held to 128 either way, from 0. -/
def step (q s : BitVec 32) : BitVec 32 :=
  IntOp.addi (IntOp.minsi 128#32 (IntOp.maxsi 4294967168#32 (IntOp.subi (IntOp.addi q 512#32) s))) 128#32

theorem step_at : ∀ (q : Fin 64) (s : Fin 576),
    min (Scalar.select (IntOp.cmpi .slt (step (BitVec.ofNat 32 q.val) (BitVec.ofNat 32 s.val)) 0#32)
      (IntOp.addi (step (BitVec.ofNat 32 q.val) (BitVec.ofNat 32 s.val)) 257#32)
      (step (BitVec.ofNat 32 q.val) (BitVec.ofNat 32 s.val))).toInt.toNat 256 = min (q.val + 640 - s.val) 256 := by
  decide +kernel

/-- The distances' places in the table. -/
def steps : IVec S64x576 32 :=
  addi (minsi (broadcastInDim S64x576 ![] bcast_S_S64x576 (id (constantI S_ 32 128#32)))
    (maxsi (broadcastInDim S64x576 ![] bcast_S_S64x576 (id (constantI S_ 32 4294967168#32)))
      (subi (broadcastInDim S64x576 ![0, 1] bcast_S64x1_S64x576_0_1
          (addi (broadcastInDim S64x1 ![0] bcast_S64_S64x1_0 (iotaInDim S64 32 0)) (broadcastInDim S64x1 ![] bcast_S_S64x1 (constantI S_ 32 512#32))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The same, counted from the table's end where negative. -/
def places : IVec S64x576x1 32 :=
  broadcastInDim S64x576x1 ![0, 1] bcast_S64x576_S64x576x1_0_1
    (select (cmpi .slt steps (broadcastInDim S64x576 ![] bcast_S_S64x576 (constantI S_ 32 0#32)))
      (addi steps (broadcastInDim S64x576 ![] bcast_S_S64x576 (constantI S_ 32 257#32))) steps)

theorem places_at (q : Fin 64) (s : Fin 576) : min (places (ix3 q s 0)).toInt.toNat 256 = min (q.val + 640 - s.val) 256 := by
  refine Eq.trans (congrArg (fun w : BitVec 32 => min w.toInt.toNat 256) ?_) (step_at q s)
  unfold places steps
  pointwise
  rfl

/-- The bias of the scores, from the table. -/
theorem rel_eq (T : FVec Ideal S16x257 .f32) : Host.gather gather_S16x257_S64x576x1_S16x64x576_0_1_n_n_1_2_161 T places = spread T := by
  funext y
  idx_vars y
  rw [entry_at]
  exact congrArg T (congrArg (ix2 _) (Fin.ext (places_at _ _)))

/-- The whole reference, from the rows and the bias. -/
def whole (x : FVec Ideal S16384x8448 .bf16) (bias : FVec Ideal S16x64x576 .f32) : FVec Ideal S16384x1024 .bf16 :=
  flat (mixed (keysOf (blocks (padded (wide (extractStridedSlice S16384x1024 ![0, 7168] x slices_S16384x8448_S16384x1024_0_7168)))))
    (shares (weights (scores (rowsOf (wide (extractStridedSlice S16384x1024 ![0, 4096] x slices_S16384x8448_S16384x1024_0_4096)))
      (keysOf (blocks (padded (wide (extractStridedSlice S16384x1024 ![0, 6144] x slices_S16384x8448_S16384x1024_0_6144))))) bias))))

theorem res_eq (m : (ℓ : Loc nD τ sig) → Buf (Elt Ideal) ℓ) (c : Dev nD) :
    Cert.Reference5Ideal.Value.res_main_v88 m c = whole (m ((c.tc : Thread nD τ).loc main_arg0))
      (Host.gather gather_S16x257_S64x576x1_S16x64x576_0_1_n_n_1_2_161 (m ((c.tc : Thread nD τ).loc main_arg1) : FVec Ideal S16x257 .f32) places) := by
  unfold Cert.Reference5Ideal.Value.res_main_v88 whole flat mixed shares weights scores keysOf blocks padded rowsOf wide inside places steps
  rfl

/-- A chunk's key, where it is not before the sequence. -/
theorem key_at (X : FVec Ideal S16384x1024 .bf16) (b : Fin 4) (n : Fin 64) (s : Fin 576) (g : Fin 16) (d : Fin 64)
    (h : 512 - 64 * n.val ≤ s.val) :
    keysOf (blocks (padded (wide X))) (ix5 b n s g d) =
      X (ix2 ⟨b.val * 4096 + (n.val * 64 + s.val) - 512, by omega⟩ ⟨g.val * 64 + d.val, by omega⟩) := by
  rw [keysOf_at, blocks_at, padded_at _ _ _ _ _ (by show 512 ≤ (n.val + s.val / 64) * 64 + s.val % 64; omega), wide_at]
  refine congrArg X (congrArg₂ ix2 (Fin.ext ?_) rfl)
  show b.val * 4096 + ((n.val + s.val / 64) * 64 + s.val % 64 - 512) = b.val * 4096 + (n.val * 64 + s.val) - 512
  omega

end Cert.Reference5Ideal.Tie
-- ==== Proof.Att6.lean ====
module

public import proofs.«01_k».proof.Defs
public import proofs.«01_k».proof.Proof.Att4
public import proofs.«01_k».proof.Proof.Att5
public import Idealize.ShloMosaic.Lib.ReduceAll
public import proofs.«01_k».proof.Proof.Gen.Reference5Ideal.Run
public import Idealize.ShloMosaic.Lib.Pipeline.ValueKit
public import Idealize.ShloMosaic.Lib.Pointwise
public import Idealize.ShloMosaic.Lib.WordCmp
public import Idealize.ShloMosaic.Lib.IdealHost
public import Idealize.ShloMosaic.Lib.Claim

@[expose] public section

set_option maxRecDepth 16384

noncomputable section

namespace Cert.Reference5Ideal.Tie

open Cert.Reference5Ideal Cert.Reference5Ideal.Gen Idealize.ShloMosaic Idealize.ShloMosaic.TcCoe Idealize.SL.Sem
open Cert.Kernel5Ideal.Tie (low score weight mix attn spread low_eq weight_low mix_congr)

/-- Both bits of a conjunction that holds. -/
theorem and_one : ∀ a b : BitVec 1, IntOp.andi a b = 1#1 → a = 1#1 ∧ b = 1#1 := by decide

/-- A number whose magnitude is below infinity is finite. -/
theorem finite_of {f : FTy} (x y : Ideal f) (hy : y = (⊤ : EReal)) (h : FloatOps.cmpf (F := Ideal) .olt (FloatOps.hostAbsf x) y = 1#1) :
    (x : EReal) ≠ ⊤ ∧ (x : EReal) ≠ ⊥ := by
  subst hy
  have h1 : max (x : EReal) (-x) < ⊤ := by
    by_contra hn
    have e : FloatOps.cmpf (F := Ideal) .olt (FloatOps.hostAbsf x) (⊤ : EReal) = BitVec.ofBool (decide (max (x : EReal) (-x) < ⊤)) := rfl
    rw [e, decide_eq_false hn] at h
    exact absurd h (by decide)
  obtain ⟨a, b⟩ := max_lt_iff.mp h1
  exact ⟨a.ne, fun e => b.ne (by rw [e]; rfl)⟩

/-- The words of infinity. -/
theorem inf_words : Ideal.ofBits .bf16 32640#16 = ⊤ ∧ Ideal.ofBits .f32 2139095040#32 = ⊤ := by
  constructor <;> simp [Ideal.ofBits, Ideal.ieee]

/-- The precondition, element by element. -/
theorem finite_args (x : FVec Ideal S16384x8448 .bf16) (T : FVec Ideal S16x257 .f32) (z : FVec Ideal Cert.Pre_finite_scores.S16 .f32)
    [Cert.Pre_finite_scores.Facts]
    (h : Cert.Pre_finite_scores.fn (F := Ideal) x T z = fun _ => 1#1) :
    (∀ (R : Fin 16384) (k : Fin 1024), (x (ix2 R ⟨4096 + k.val, by omega⟩) : EReal) ≠ ⊤ ∧ (x (ix2 R ⟨4096 + k.val, by omega⟩) : EReal) ≠ ⊥) ∧
    (∀ (R : Fin 16384) (k : Fin 1024), (x (ix2 R ⟨6144 + k.val, by omega⟩) : EReal) ≠ ⊤ ∧ (x (ix2 R ⟨6144 + k.val, by omega⟩) : EReal) ≠ ⊥) ∧
    ∀ (g : Fin 16) (k : Fin 257), (T (ix2 g k) : EReal) ≠ ⊤ ∧ (T (ix2 g k) : EReal) ≠ ⊥ := by
  have h0 := congrFun h ix0
  dsimp only [Cert.Pre_finite_scores.fn] at h0
  obtain ⟨h1, hb⟩ := and_one _ _ h0
  obtain ⟨hq, hk⟩ := and_one _ _ h1
  refine ⟨fun R k => ?_, fun R k => ?_, fun g k => ?_⟩
  · have := Host.reduce_andi_all _ _ _ _ _ hq (ix2 R k)
    rw [← cols_q x R k]
    exact finite_of _ _ inf_words.1 this
  · have := Host.reduce_andi_all _ _ _ _ _ hk (ix2 R k)
    rw [← cols_k x R k]
    exact finite_of _ _ inf_words.1 this
  · exact finite_of _ _ inf_words.2 (Host.reduce_andi_all _ _ _ _ _ hb (ix2 g k))

/-- A finite number. -/
def Tame (a : EReal) : Prop := a ≠ ⊤ ∧ a ≠ ⊥

/-- Sums of finite numbers are finite. -/
theorem fin_add {a b : EReal} (ha : Tame a) (hb : Tame b) : Tame (a + b) := by
  lift a to ℝ using ha
  lift b to ℝ using hb
  exact ⟨EReal.coe_ne_top (a + b), EReal.coe_ne_bot (a + b)⟩

/-- Products of finite numbers are finite. -/
theorem fin_mul {a b : EReal} (ha : Tame a) (hb : Tame b) : Tame (a * b) := by
  lift a to ℝ using ha
  lift b to ℝ using hb
  exact ⟨EReal.coe_ne_top (a * b), EReal.coe_ne_bot (a * b)⟩

/-- So is a sum of many. -/
theorem fin_sum {n : ℕ} (a : Fin n → EReal) (ha : ∀ i, Tame (a i)) : Tame (∑ i, a i) :=
  Finset.sum_induction a Tame (fun _ _ => fin_add) ⟨EReal.zero_ne_top, EReal.zero_ne_bot⟩ fun i _ => ha i

/-- The scale is finite. -/
theorem fin_scale : Tame (Ideal.ofBits FTy.f32 1040187392#32) := by
  have e := fin_mul (a := ((8388608 : ℝ) : EReal)) (b := (((2 : ℝ) ^ 26)⁻¹ : ℝ))
    ⟨EReal.coe_ne_top _, EReal.coe_ne_bot _⟩ ⟨EReal.coe_ne_top _, EReal.coe_ne_bot _⟩
  constructor
  · simp [Ideal.ofBits, Ideal.ieee]
    exact e.1
  · simp [Ideal.ofBits, Ideal.ieee]
    exact e.2

/-- No exponential is negative. -/
theorem exp_nonneg (a : EReal) : 0 ≤ Ideal.exp a := by
  induction a with
  | bot => exact le_rfl
  | top => exact le_top
  | coe r => exact EReal.coe_nonneg.mpr (Real.exp_pos r).le

/-- The sum of the weights is not zero where the last score is finite and no score is infinity. -/
theorem sum_ne_zero (S : Fin 576 → EReal) (h : ∀ s, S s ≠ ⊤) (s0 : Fin 576) (h0 : S s0 ≠ ⊥) : (∑ s, weight S s) ≠ 0 := by
  have lt : Finset.fold max low S Finset.univ < ⊤ :=
    Finset.fold_max_lt ⊤ |>.mpr ⟨by rw [low_eq]; exact bot_lt_top, fun s _ => lt_top_iff_ne_top.mpr (h s)⟩
  have le : S s0 ≤ Finset.fold max low S Finset.univ := Finset.le_fold_max (S s0) |>.mpr (.inr ⟨s0, Finset.mem_univ _, le_rfl⟩)
  have hM : Tame (Finset.fold max low S Finset.univ) := ⟨lt.ne, fun e => h0 (le_bot_iff.mp (e ▸ le))⟩
  have pos : 0 < weight S s0 := by
    unfold weight
    generalize Finset.fold max low S Finset.univ = M at hM
    have hs : Tame (S s0) := ⟨h s0, h0⟩
    generalize S s0 = a at hs
    lift a to ℝ using hs
    lift M to ℝ using hM
    exact EReal.coe_pos.mpr (Real.exp_pos (a - M))
  have := Finset.single_le_sum (f := weight S) (fun s _ => exp_nonneg _) (Finset.mem_univ s0)
  exact (lt_of_lt_of_le pos this).ne'

/-- The weights of finite scores from key `T` on do not add up to zero. -/
theorem score_sum (T : ℕ) (hT : T ≤ 575) (d b : Fin 576 → EReal) (hd : ∀ s : Fin 576, T ≤ s.val → Tame (d s)) (hb : ∀ s, Tame (b s)) :
    (∑ s, weight (score T d b) s) ≠ 0 := by
  have f : ∀ s : Fin 576, T ≤ s.val → Tame (score T d b s) := fun s h => by
    unfold score
    rw [if_pos h]
    exact fin_add (fin_mul (hd s h) fin_scale) (hb s)
  refine sum_ne_zero _ (fun s => ?_) 575 (f 575 hT).2
  by_cases h : T ≤ s.val
  · exact (f s h).1
  · unfold score
    rw [if_neg h, low_eq]
    exact bot_ne_top

/-- The reference's result at a row and a column is the attention's. -/
theorem whole_at (x : FVec Ideal S16384x8448 .bf16) (bias : FVec Ideal S16x64x576 .f32)
    (hq : ∀ (R : Fin 16384) (k : Fin 1024), Tame (x (ix2 R ⟨4096 + k.val, by omega⟩)))
    (hk : ∀ (R : Fin 16384) (k : Fin 1024), Tame (x (ix2 R ⟨6144 + k.val, by omega⟩)))
    (hb : ∀ (g : Fin 16) (q : Fin 64) (s : Fin 576), Tame (bias (ix3 g q s))) (R : Fin 16384) (L : Fin 1024) :
    whole x bias (ix2 R L) = attn x bias R L := by
  have row : ∀ s : Fin 576, 512 - 64 * (R.val / 64 % 64) ≤ s.val →
      R.val / 4096 * 4096 + (R.val / 64 % 64 * 64 + s.val) - 512 = R.val / 64 * 64 + s.val - 512 := fun s _ => by omega
  have same : R.val / 4096 * 4096 + (R.val / 64 % 64 * 64 + R.val % 64) = R.val := by omega
  have key : attn x bias R L = mix (score (512 - 64 * (R.val / 64 % 64)) (fun s => ∑ e : Fin 64,
        keysOf (blocks (padded (wide (extractStridedSlice S16384x1024 ![0, 6144] x slices_S16384x8448_S16384x1024_0_6144))))
          (ix5 ⟨R.val / 4096, by omega⟩ ⟨R.val / 64 % 64, by omega⟩ s ⟨L.val / 64, by omega⟩ e) *
        rowsOf (wide (extractStridedSlice S16384x1024 ![0, 4096] x slices_S16384x8448_S16384x1024_0_4096))
          (ix5 ⟨R.val / 4096, by omega⟩ ⟨R.val / 64 % 64, by omega⟩ ⟨R.val % 64, by omega⟩ ⟨L.val / 64, by omega⟩ e))
        (fun s => bias (ix3 ⟨L.val / 64, by omega⟩ ⟨R.val % 64, by omega⟩ s)))
      (fun s => keysOf (blocks (padded (wide (extractStridedSlice S16384x1024 ![0, 7168] x slices_S16384x8448_S16384x1024_0_7168))))
        (ix5 ⟨R.val / 4096, by omega⟩ ⟨R.val / 64 % 64, by omega⟩ s ⟨L.val / 64, by omega⟩ ⟨L.val % 64, by omega⟩)) := by
    unfold attn
    refine mix_congr _ _ _ _ _ _ _ (fun s h => Finset.sum_congr rfl fun e _ => ?_) rfl fun s h => ?_
    · rw [key_at _ _ _ _ _ _ h, cols_k, rowsOf_at, wide_at, cols_q]
      exact congrArg₂ (· * ·) (congrArg x (congrArg₂ ix2 (Fin.ext (row s h).symm) rfl)) (congrArg x (congrArg₂ ix2 (Fin.ext same.symm) rfl))
    · rw [key_at _ _ _ _ _ _ h, cols_v]
      refine congrArg x (congrArg₂ ix2 (Fin.ext (row s h).symm) (Fin.ext ?_))
      show 7168 + L.val = 7168 + (L.val / 64 * 64 + L.val % 64)
      omega
  have some : (∑ s, weight (score (512 - 64 * (R.val / 64 % 64)) (fun s => ∑ e : Fin 64,
        keysOf (blocks (padded (wide (extractStridedSlice S16384x1024 ![0, 6144] x slices_S16384x8448_S16384x1024_0_6144))))
          (ix5 ⟨R.val / 4096, by omega⟩ ⟨R.val / 64 % 64, by omega⟩ s ⟨L.val / 64, by omega⟩ e) *
        rowsOf (wide (extractStridedSlice S16384x1024 ![0, 4096] x slices_S16384x8448_S16384x1024_0_4096))
          (ix5 ⟨R.val / 4096, by omega⟩ ⟨R.val / 64 % 64, by omega⟩ ⟨R.val % 64, by omega⟩ ⟨L.val / 64, by omega⟩ e))
        (fun s => bias (ix3 ⟨L.val / 64, by omega⟩ ⟨R.val % 64, by omega⟩ s))) s) ≠ 0 := by
    refine score_sum _ (by omega) _ _ (fun s h => fin_sum _ fun e => ?_) fun s => hb _ _ s
    rw [key_at _ _ _ _ _ _ h, cols_k, rowsOf_at, wide_at, cols_q]
    exact fin_mul (hk _ _) (hq _ _)
  rw [key]
  unfold whole mix
  rw [flat_at, mixed_at]
  refine Finset.sum_congr rfl fun s _ => ?_
  rw [shares_at, Ideal.mul_one_div some, mul_comm]
  refine congrArg (· * _) (congrArg₂ Ideal.div ?_ (Finset.sum_congr rfl fun u _ => ?_))
  all_goals
    rw [weights_at]
    exact congrArg (fun S => weight S _) (funext fun v => scores_at _ _ _ _ _ _ _ v)

/-- The shape facts of the precondition. -/
theorem pre_facts : Cert.Pre_finite_scores.Facts where
  slices_S16384x8448_S16384x1024_0_4096 := by decide
  slices_S16384x8448_S16384x1024_0_6144 := by decide
  bcast_S_S16384x1024 := by decide
  reducesTo_S16384x1024_S_d0_1 := by decide
  h_S_ := by decide
  bcast_S_S16x257 := by decide
  reducesTo_S16x257_S_d0_1 := by decide

/-- The reference's result is the attention's. -/
theorem alg5 : Cert.algebraic_Kernel5Ideal_Reference5Ideal_pre_finite_scores (hKernel5Ideal := Cert.Kernel5Ideal.Gen.facts)
    (hReference5Ideal := Cert.Reference5Ideal.Gen.facts) (hPre_finite_scores := pre_facts) := by
  haveI := pre_facts
  pair_intro
  · run_from Cert.Kernel5Ideal.Value.run_blocks m g
  · run_from Cert.Reference5Ideal.Value.run m' g'
    obtain ⟨hq, hk, hb⟩ := finite_args _ _ _ (hpre c)
    rw [res_eq, (hagree c).1, (hagree c).2.1, rel_eq]
    refine Eq.trans ?_ (Cert.Kernel5Ideal.Tie.arr12 m c).symm
    funext y
    idx_vars y
    refine whole_at _ _ hq hk (fun g q s => ?_) _ _
    exact hb g _

end Cert.Reference5Ideal.Tie
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5Ideal.Value
public import proofs.«01_k».proof.Proof.Gen.Reference5Ideal.Run
public import proofs.«01_k».proof.Proof.Prompt
public import proofs.«01_k».proof.Proof.Sample
public import proofs.«01_k».proof.Proof.Cache
public import proofs.«01_k».proof.Proof.Att6
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Reference5Ideal.Tie.pre_facts, by
  refine ⟨?_, ?_, ?_, ?_, ?_, ?_, ?_, ?_, ?_, ?_, ?_, ?_, ?_, ?_, ?_, ?_, ?_, ?_, ?_, ?_, ?_, ?_⟩
  · exact fun m ρ _ => Cert.Kernel2.Gen.frame m ρ
  · exact fun m ρ _ => Cert.Kernel2Ideal.Gen.frame m ρ
  · exact fun m ρ _ => (θ_run Cert.Reference2Ideal.defs _ _).mono
      (fun r h => ⟨fun c => (h c).2.2.2.2, Idealize.ShloMosaic.sem_eq_zero_of_no_sems (by decide) r.2⟩)
      (Cert.Reference2Ideal.Value.run (F := Ideal) m ρ)
  · exact fun m ρ _ => Cert.Kernel3.Gen.frame m ρ
  · exact fun m ρ _ => Cert.Kernel3Ideal.Gen.frame m ρ
  · exact fun m ρ _ => (θ_run Cert.Reference3Ideal.defs _ _).mono
      (fun r h => ⟨fun c => (h c).2.2.2.2.2, Idealize.ShloMosaic.sem_eq_zero_of_no_sems (by decide) r.2⟩)
      (Cert.Reference3Ideal.Value.run (F := Ideal) m ρ)
  · exact fun m ρ _ => Cert.Kernel4.Gen.frame m ρ
  · exact fun m ρ _ => Cert.Kernel4Ideal.Gen.frame m ρ
  · exact fun m ρ _ => (θ_run Cert.Reference4Ideal.defs _ _).mono
      (fun r h => ⟨fun c => (h c).2.2, Idealize.ShloMosaic.sem_eq_zero_of_no_sems (by decide) r.2⟩)
      (Cert.Reference4Ideal.Value.run (F := Ideal) m ρ)
  · exact fun m ρ _ => Cert.Kernel5.Gen.frame m ρ
  · exact fun m ρ _ => Cert.Kernel5Ideal.Gen.frame m ρ
  · exact fun m ρ _ => Cert.Kernel5Ideal.Gen.frame m ρ
  · exact fun m ρ _ => (θ_run Cert.Reference5Ideal.defs _ _).mono
      (fun r h => ⟨fun c => (h c).2, Idealize.ShloMosaic.sem_eq_zero_of_no_sems (by decide) r.2⟩)
      (Cert.Reference5Ideal.Value.run (F := Ideal) m ρ)
  · exact fun m ρ _ => (θ_run Cert.Reference5Ideal.defs _ _).mono
      (fun r h => ⟨fun c => (h c).2, Idealize.ShloMosaic.sem_eq_zero_of_no_sems (by decide) r.2⟩)
      (Cert.Reference5Ideal.Value.run (F := Ideal) m ρ)
  · trivial
  · exact Cert.Kernel2Ideal.Tie.alg2
  · trivial
  · exact Cert.Kernel3Ideal.Tie.alg3
  · trivial
  · exact Cert.Kernel4Ideal.Tie.alg4
  · trivial
  · exact Cert.Reference5Ideal.Tie.alg5⟩

end Cert.Proof

end
